-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_labelled_KernelIdeal [hPre_finite_and_labelled_KernelIdeal : Cert.Pre_finite_and_labelled_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_labelled_ReferenceIdeal [hPre_finite_and_labelled_ReferenceIdeal : Cert.Pre_finite_and_labelled_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_labelled_KernelIdeal [hKernelIdeal : Cert.KernelIdeal.Facts] [hPre_finite_and_labelled_KernelIdeal : Cert.Pre_finite_and_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labelled_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_labelled_ReferenceIdeal [hReferenceIdeal : Cert.ReferenceIdeal.Facts] [hPre_finite_and_labelled_ReferenceIdeal : Cert.Pre_finite_and_labelled_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_labelled_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_labelled_KernelIdeal [hKernelIdeal : Cert.KernelIdeal.Facts] [hReferenceIdeal : Cert.ReferenceIdeal.Facts] [hPre_finite_and_labelled_KernelIdeal : Cert.Pre_finite_and_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_labelled_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_labelled_KernelIdeal : Cert.Pre_finite_and_labelled_KernelIdeal.Facts) (hPre_finite_and_labelled_ReferenceIdeal : Cert.Pre_finite_and_labelled_ReferenceIdeal.Facts),
    quiescent_Kernel (hKernel := hKernel)
    ∧ quiescent_KernelIdeal (hKernelIdeal := hKernelIdeal)
    ∧ quiescent_KernelIdeal_pre_finite_and_labelled_KernelIdeal (hKernelIdeal := hKernelIdeal) (hPre_finite_and_labelled_KernelIdeal := hPre_finite_and_labelled_KernelIdeal)
    ∧ quiescent_ReferenceIdeal (hReferenceIdeal := hReferenceIdeal)
    ∧ quiescent_ReferenceIdeal_pre_finite_and_labelled_ReferenceIdeal (hReferenceIdeal := hReferenceIdeal) (hPre_finite_and_labelled_ReferenceIdeal := hPre_finite_and_labelled_ReferenceIdeal)
    ∧ preserves_Kernel_KernelIdeal
    ∧ algebraic_KernelIdeal_ReferenceIdeal_pre_finite_and_labelled_KernelIdeal (hKernelIdeal := hKernelIdeal) (hReferenceIdeal := hReferenceIdeal) (hPre_finite_and_labelled_KernelIdeal := hPre_finite_and_labelled_KernelIdeal)
-- ==== Pre_finite_and_labelled_KernelIdeal.lean ====
abbrev S512x1024 : Shape := ⟨2, ![512, 1024]⟩
abbrev S1024x8192 : Shape := ⟨2, ![1024, 8192]⟩
abbrev S512 : Shape := ⟨1, ![512]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)
  bcast_S_S512 : S_.BroadcastsInDim S512 (![] : Fin 0 → Fin S512.rank)

variable [Facts]

def fn {F : FTy → Type} [FloatOps F] (main_arg0 : FVec F S512x1024 .f32) (main_arg1 : FVec F S1024x8192 .f32) (main_arg2 : IVec S512 32) : IVec S512x1024 1 × IVec S1024x8192 1 × IVec S512 1 × IVec S512 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_c : IVec S_ 32 := constantI S_ 32 0#32
  let main_v6 : IVec S512 32 := broadcastInDim S512 ![] bcast_S_S512 main_c
  let main_v7 : IVec S512 1 := cmpi .sge main_arg2 main_v6
  let main_c_1 : IVec S_ 32 := constantI S_ 32 16384#32
  let main_v8 : IVec S512 32 := broadcastInDim S512 ![] bcast_S_S512 main_c_1
  let main_v9 : IVec S512 1 := cmpi .slt main_arg2 main_v8
  (main_v2, main_v5, main_v7, main_v9)
-- ==== Pre_finite_and_labelled_ReferenceIdeal.lean ====
abbrev S512x1024 : Shape := ⟨2, ![512, 1024]⟩
abbrev S1024x16384 : Shape := ⟨2, ![1024, 16384]⟩
abbrev S512 : Shape := ⟨1, ![512]⟩
abbrev S_ : Shape := ⟨0, ![]⟩

class Facts : Prop where
  bcast_S_S512x1024 : S_.BroadcastsInDim S512x1024 (![] : Fin 0 → Fin S512x1024.rank)
  bcast_S_S1024x16384 : S_.BroadcastsInDim S1024x16384 (![] : Fin 0 → Fin S1024x16384.rank)
  bcast_S_S512 : S_.BroadcastsInDim S512 (![] : Fin 0 → Fin S512.rank)

variable [Facts]

def fn {F : FTy → Type} [FloatOps F] (main_arg0 : FVec F S512x1024 .f32) (main_arg1 : FVec F S1024x16384 .f32) (main_arg2 : IVec S512 32) : IVec S512x1024 1 × IVec S1024x16384 1 × IVec S512 1 × IVec S512 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_c : IVec S_ 32 := constantI S_ 32 0#32
  let main_v6 : IVec S512 32 := broadcastInDim S512 ![] bcast_S_S512 main_c
  let main_v7 : IVec S512 1 := cmpi .sge main_arg2 main_v6
  let main_c_1 : IVec S_ 32 := constantI S_ 32 16384#32
  let main_v8 : IVec S512 32 := broadcastInDim S512 ![] bcast_S_S512 main_c_1
  let main_v9 : IVec S512 1 := cmpi .slt main_arg2 main_v8
  (main_v2, main_v5, main_v7, main_v9)
-- ==== Kernel.lean ====
abbrev S512x1024 : Shape := ⟨2, ![512, 1024]⟩
abbrev S1024x8192 : Shape := ⟨2, ![1024, 8192]⟩
abbrev S512 : Shape := ⟨1, ![512]⟩
abbrev S1024x1024 : Shape := ⟨2, ![1024, 1024]⟩
abbrev S2x512 : Shape := ⟨2, ![2, 512]⟩
abbrev S16x2x512 : Shape := ⟨3, ![16, 2, 512]⟩
abbrev S3 : Shape := ⟨1, ![3]⟩
abbrev S16 : Shape := ⟨1, ![16]⟩
abbrev S1 : Shape := ⟨1, ![1]⟩
abbrev S_ : Shape := ⟨0, ![]⟩
abbrev S1024x512 : Shape := ⟨2, ![1024, 512]⟩
abbrev S512x512 : Shape := ⟨2, ![512, 512]⟩
abbrev S512x1 : Shape := ⟨2, ![512, 1]⟩
abbrev S1x512 : Shape := ⟨2, ![1, 512]⟩
abbrev S1x1x512 : Shape := ⟨3, ![1, 1, 512]⟩
abbrev S1x2x512 : Shape := ⟨3, ![1, 2, 512]⟩

abbrev nBuf : Space → Nat
  | .hbm => 4
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512, .i32⟩
  | .hbm, ⟨3, _⟩ => ⟨S512, .f32⟩
  | .local _ .vmem, ⟨0, _⟩ => ⟨S512, .i32⟩
  | .local _ .vmem, ⟨1, _⟩ => ⟨S512, .f32⟩
  | .local _ .vmem, ⟨2, _⟩ => ⟨S512x1024, .f32⟩
  | .local _ .vmem, ⟨3, _⟩ => ⟨S1024x1024, .f32⟩
  | .local _ .vmem, ⟨4, _⟩ => ⟨S2x512, .f32⟩
  | .local _ .vmem, ⟨5, _⟩ => ⟨S16x2x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let c0_i32_9 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_4 : BitVec 32 := 4#32
  let v13 : BitVec 32 := Scalar.muli v2 c4_i32_4
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.addi v13 v8
  let c1024_i32 : BitVec 32 := 1024#32
  let v17 : BitVec 32 := Scalar.muli v14 c1024_i32
  let v18 : BitVec 32 := Scalar.addi v17 c0_i32
  ![0, v18.toNat]
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_15 : BitVec 32 := 0#32
  let v30 : BitVec 1 := Scalar.cmpi .ne v12 c0_i32_15
  let v31 : BitVec 32 := Scalar.extui v30
  let c0_i32_16 : BitVec 32 := 0#32
  let v32 : BitVec 1 := Scalar.cmpi .ne v31 c0_i32_16
  v32

def k0_dev1 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c0_i32_208 : BitVec 32 := 0#32
  let c1_i32_212 : BitVec 32 := 1#32
  let v343 : BitVec 32 := Scalar.muli c0_i32_208 c1_i32_212
  let v344 : BitVec 32 := Scalar.addi v342 v343
  v344.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_17 : BitVec 32 := 1#32
  let v33 : BitVec 1 := Scalar.cmpi .ne v12 c1_i32_17
  let v34 : BitVec 32 := Scalar.extui v33
  let c0_i32_18 : BitVec 32 := 0#32
  let v35 : BitVec 1 := Scalar.cmpi .ne v34 c0_i32_18
  v35

def k0_dev2 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c1_i32_208 : BitVec 32 := 1#32
  let c1_i32_212 : BitVec 32 := 1#32
  let v343 : BitVec 32 := Scalar.muli c1_i32_208 c1_i32_212
  let v344 : BitVec 32 := Scalar.addi v342 v343
  v344.toNat
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_19 : BitVec 32 := 2#32
  let v36 : BitVec 1 := Scalar.cmpi .ne v12 c2_i32_19
  let v37 : BitVec 32 := Scalar.extui v36
  let c0_i32_20 : BitVec 32 := 0#32
  let v38 : BitVec 1 := Scalar.cmpi .ne v37 c0_i32_20
  v38

def k0_dev3 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c2_i32_208 : BitVec 32 := 2#32
  let c1_i32_212 : BitVec 32 := 1#32
  let v343 : BitVec 32 := Scalar.muli c2_i32_208 c1_i32_212
  let v344 : BitVec 32 := Scalar.addi v342 v343
  v344.toNat
def k0_cond4 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32 : BitVec 32 := 3#32
  let v39 : BitVec 1 := Scalar.cmpi .ne v12 c3_i32
  let v40 : BitVec 32 := Scalar.extui v39
  let c0_i32_21 : BitVec 32 := 0#32
  let v41 : BitVec 1 := Scalar.cmpi .ne v40 c0_i32_21
  v41

def k0_dev4 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c3_i32_208 : BitVec 32 := 3#32
  let c1_i32_212 : BitVec 32 := 1#32
  let v343 : BitVec 32 := Scalar.muli c3_i32_208 c1_i32_212
  let v344 : BitVec 32 := Scalar.addi v342 v343
  v344.toNat
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_22 : BitVec 32 := 4#32
  let v42 : BitVec 1 := Scalar.cmpi .ne v12 c4_i32_22
  let v43 : BitVec 32 := Scalar.extui v42
  let c0_i32_23 : BitVec 32 := 0#32
  let v44 : BitVec 1 := Scalar.cmpi .ne v43 c0_i32_23
  v44

def k0_dev5 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c0_i32_208 : BitVec 32 := 0#32
  let c1_i32_212 : BitVec 32 := 1#32
  let v343 : BitVec 32 := Scalar.muli c0_i32_208 c1_i32_212
  let v344 : BitVec 32 := Scalar.addi v342 v343
  v344.toNat
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32 : BitVec 32 := 5#32
  let v45 : BitVec 1 := Scalar.cmpi .ne v12 c5_i32
  let v46 : BitVec 32 := Scalar.extui v45
  let c0_i32_24 : BitVec 32 := 0#32
  let v47 : BitVec 1 := Scalar.cmpi .ne v46 c0_i32_24
  v47

def k0_dev6 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c1_i32_208 : BitVec 32 := 1#32
  let c1_i32_212 : BitVec 32 := 1#32
  let v343 : BitVec 32 := Scalar.muli c1_i32_208 c1_i32_212
  let v344 : BitVec 32 := Scalar.addi v342 v343
  v344.toNat
def k0_cond7 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32 : BitVec 32 := 6#32
  let v48 : BitVec 1 := Scalar.cmpi .ne v12 c6_i32
  let v49 : BitVec 32 := Scalar.extui v48
  let c0_i32_25 : BitVec 32 := 0#32
  let v50 : BitVec 1 := Scalar.cmpi .ne v49 c0_i32_25
  v50

def k0_dev7 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c2_i32_208 : BitVec 32 := 2#32
  let c1_i32_212 : BitVec 32 := 1#32
  let v343 : BitVec 32 := Scalar.muli c2_i32_208 c1_i32_212
  let v344 : BitVec 32 := Scalar.addi v342 v343
  v344.toNat
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32 : BitVec 32 := 7#32
  let v51 : BitVec 1 := Scalar.cmpi .ne v12 c7_i32
  let v52 : BitVec 32 := Scalar.extui v51
  let c0_i32_26 : BitVec 32 := 0#32
  let v53 : BitVec 1 := Scalar.cmpi .ne v52 c0_i32_26
  v53

def k0_dev8 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c3_i32_208 : BitVec 32 := 3#32
  let c1_i32_212 : BitVec 32 := 1#32
  let v343 : BitVec 32 := Scalar.muli c3_i32_208 c1_i32_212
  let v344 : BitVec 32 := Scalar.addi v342 v343
  v344.toNat
def k0_cond9 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_27 : BitVec 32 := 8#32
  let v54 : BitVec 1 := Scalar.cmpi .ne v12 c8_i32_27
  let v55 : BitVec 32 := Scalar.extui v54
  let c0_i32_28 : BitVec 32 := 0#32
  let v56 : BitVec 1 := Scalar.cmpi .ne v55 c0_i32_28
  v56

def k0_dev9 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c0_i32_208 : BitVec 32 := 0#32
  let c1_i32_212 : BitVec 32 := 1#32
  let v343 : BitVec 32 := Scalar.muli c0_i32_208 c1_i32_212
  let v344 : BitVec 32 := Scalar.addi v342 v343
  v344.toNat
def k0_cond10 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32 : BitVec 32 := 9#32
  let v57 : BitVec 1 := Scalar.cmpi .ne v12 c9_i32
  let v58 : BitVec 32 := Scalar.extui v57
  let c0_i32_29 : BitVec 32 := 0#32
  let v59 : BitVec 1 := Scalar.cmpi .ne v58 c0_i32_29
  v59

def k0_dev10 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c1_i32_208 : BitVec 32 := 1#32
  let c1_i32_212 : BitVec 32 := 1#32
  let v343 : BitVec 32 := Scalar.muli c1_i32_208 c1_i32_212
  let v344 : BitVec 32 := Scalar.addi v342 v343
  v344.toNat
def k0_cond11 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32 : BitVec 32 := 10#32
  let v60 : BitVec 1 := Scalar.cmpi .ne v12 c10_i32
  let v61 : BitVec 32 := Scalar.extui v60
  let c0_i32_30 : BitVec 32 := 0#32
  let v62 : BitVec 1 := Scalar.cmpi .ne v61 c0_i32_30
  v62

def k0_dev11 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c2_i32_208 : BitVec 32 := 2#32
  let c1_i32_212 : BitVec 32 := 1#32
  let v343 : BitVec 32 := Scalar.muli c2_i32_208 c1_i32_212
  let v344 : BitVec 32 := Scalar.addi v342 v343
  v344.toNat
def k0_cond12 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32 : BitVec 32 := 11#32
  let v63 : BitVec 1 := Scalar.cmpi .ne v12 c11_i32
  let v64 : BitVec 32 := Scalar.extui v63
  let c0_i32_31 : BitVec 32 := 0#32
  let v65 : BitVec 1 := Scalar.cmpi .ne v64 c0_i32_31
  v65

def k0_dev12 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c3_i32_208 : BitVec 32 := 3#32
  let c1_i32_212 : BitVec 32 := 1#32
  let v343 : BitVec 32 := Scalar.muli c3_i32_208 c1_i32_212
  let v344 : BitVec 32 := Scalar.addi v342 v343
  v344.toNat
def k0_cond13 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32 : BitVec 32 := 12#32
  let v66 : BitVec 1 := Scalar.cmpi .ne v12 c12_i32
  let v67 : BitVec 32 := Scalar.extui v66
  let c0_i32_32 : BitVec 32 := 0#32
  let v68 : BitVec 1 := Scalar.cmpi .ne v67 c0_i32_32
  v68

def k0_dev13 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c0_i32_208 : BitVec 32 := 0#32
  let c1_i32_212 : BitVec 32 := 1#32
  let v343 : BitVec 32 := Scalar.muli c0_i32_208 c1_i32_212
  let v344 : BitVec 32 := Scalar.addi v342 v343
  v344.toNat
def k0_cond14 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32 : BitVec 32 := 13#32
  let v69 : BitVec 1 := Scalar.cmpi .ne v12 c13_i32
  let v70 : BitVec 32 := Scalar.extui v69
  let c0_i32_33 : BitVec 32 := 0#32
  let v71 : BitVec 1 := Scalar.cmpi .ne v70 c0_i32_33
  v71

def k0_dev14 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c1_i32_208 : BitVec 32 := 1#32
  let c1_i32_212 : BitVec 32 := 1#32
  let v343 : BitVec 32 := Scalar.muli c1_i32_208 c1_i32_212
  let v344 : BitVec 32 := Scalar.addi v342 v343
  v344.toNat
def k0_cond15 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32 : BitVec 32 := 14#32
  let v72 : BitVec 1 := Scalar.cmpi .ne v12 c14_i32
  let v73 : BitVec 32 := Scalar.extui v72
  let c0_i32_34 : BitVec 32 := 0#32
  let v74 : BitVec 1 := Scalar.cmpi .ne v73 c0_i32_34
  v74

def k0_dev15 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c2_i32_208 : BitVec 32 := 2#32
  let c1_i32_212 : BitVec 32 := 1#32
  let v343 : BitVec 32 := Scalar.muli c2_i32_208 c1_i32_212
  let v344 : BitVec 32 := Scalar.addi v342 v343
  v344.toNat
def k0_cond16 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32 : BitVec 32 := 15#32
  let v75 : BitVec 1 := Scalar.cmpi .ne v12 c15_i32
  let v76 : BitVec 32 := Scalar.extui v75
  let c0_i32_35 : BitVec 32 := 0#32
  let v77 : BitVec 1 := Scalar.cmpi .ne v76 c0_i32_35
  v77

def k0_dev16 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c3_i32_208 : BitVec 32 := 3#32
  let c1_i32_212 : BitVec 32 := 1#32
  let v343 : BitVec 32 := Scalar.muli c3_i32_208 c1_i32_212
  let v344 : BitVec 32 := Scalar.addi v342 v343
  v344.toNat
def k0_cond33 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_104 : BitVec 32 := 0#32
  let v186 : BitVec 1 := Scalar.cmpi .ne v12 c0_i32_104
  let v187 : BitVec 32 := Scalar.extui v186
  let c0_i32_105 : BitVec 32 := 0#32
  let v188 : BitVec 1 := Scalar.cmpi .ne v187 c0_i32_105
  v188

def k0_off2 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off3 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev17 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c0_i32_208 : BitVec 32 := 0#32
  let c1_i32_212 : BitVec 32 := 1#32
  let v343 : BitVec 32 := Scalar.muli c0_i32_208 c1_i32_212
  let v344 : BitVec 32 := Scalar.addi v342 v343
  v344.toNat
def k0_cond34 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_106 : BitVec 32 := 1#32
  let v189 : BitVec 1 := Scalar.cmpi .ne v12 c1_i32_106
  let v190 : BitVec 32 := Scalar.extui v189
  let c0_i32_107 : BitVec 32 := 0#32
  let v191 : BitVec 1 := Scalar.cmpi .ne v190 c0_i32_107
  v191

def k0_off4 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off5 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev18 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c1_i32_208 : BitVec 32 := 1#32
  let c1_i32_212 : BitVec 32 := 1#32
  let v343 : BitVec 32 := Scalar.muli c1_i32_208 c1_i32_212
  let v344 : BitVec 32 := Scalar.addi v342 v343
  v344.toNat
def k0_cond35 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_108 : BitVec 32 := 2#32
  let v192 : BitVec 1 := Scalar.cmpi .ne v12 c2_i32_108
  let v193 : BitVec 32 := Scalar.extui v192
  let c0_i32_109 : BitVec 32 := 0#32
  let v194 : BitVec 1 := Scalar.cmpi .ne v193 c0_i32_109
  v194

def k0_off6 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off7 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev19 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c2_i32_208 : BitVec 32 := 2#32
  let c1_i32_212 : BitVec 32 := 1#32
  let v343 : BitVec 32 := Scalar.muli c2_i32_208 c1_i32_212
  let v344 : BitVec 32 := Scalar.addi v342 v343
  v344.toNat
def k0_cond36 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32_110 : BitVec 32 := 3#32
  let v195 : BitVec 1 := Scalar.cmpi .ne v12 c3_i32_110
  let v196 : BitVec 32 := Scalar.extui v195
  let c0_i32_111 : BitVec 32 := 0#32
  let v197 : BitVec 1 := Scalar.cmpi .ne v196 c0_i32_111
  v197

def k0_off8 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off9 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev20 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c3_i32_208 : BitVec 32 := 3#32
  let c1_i32_212 : BitVec 32 := 1#32
  let v343 : BitVec 32 := Scalar.muli c3_i32_208 c1_i32_212
  let v344 : BitVec 32 := Scalar.addi v342 v343
  v344.toNat
def k0_cond37 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_112 : BitVec 32 := 4#32
  let v198 : BitVec 1 := Scalar.cmpi .ne v12 c4_i32_112
  let v199 : BitVec 32 := Scalar.extui v198
  let c0_i32_113 : BitVec 32 := 0#32
  let v200 : BitVec 1 := Scalar.cmpi .ne v199 c0_i32_113
  v200

def k0_off10 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off11 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev21 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c0_i32_208 : BitVec 32 := 0#32
  let c1_i32_212 : BitVec 32 := 1#32
  let v343 : BitVec 32 := Scalar.muli c0_i32_208 c1_i32_212
  let v344 : BitVec 32 := Scalar.addi v342 v343
  v344.toNat
def k0_cond38 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32_114 : BitVec 32 := 5#32
  let v201 : BitVec 1 := Scalar.cmpi .ne v12 c5_i32_114
  let v202 : BitVec 32 := Scalar.extui v201
  let c0_i32_115 : BitVec 32 := 0#32
  let v203 : BitVec 1 := Scalar.cmpi .ne v202 c0_i32_115
  v203

def k0_off12 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off13 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev22 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c1_i32_208 : BitVec 32 := 1#32
  let c1_i32_212 : BitVec 32 := 1#32
  let v343 : BitVec 32 := Scalar.muli c1_i32_208 c1_i32_212
  let v344 : BitVec 32 := Scalar.addi v342 v343
  v344.toNat
def k0_cond39 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32_116 : BitVec 32 := 6#32
  let v204 : BitVec 1 := Scalar.cmpi .ne v12 c6_i32_116
  let v205 : BitVec 32 := Scalar.extui v204
  let c0_i32_117 : BitVec 32 := 0#32
  let v206 : BitVec 1 := Scalar.cmpi .ne v205 c0_i32_117
  v206

def k0_off14 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off15 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev23 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c2_i32_208 : BitVec 32 := 2#32
  let c1_i32_212 : BitVec 32 := 1#32
  let v343 : BitVec 32 := Scalar.muli c2_i32_208 c1_i32_212
  let v344 : BitVec 32 := Scalar.addi v342 v343
  v344.toNat
def k0_cond40 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32_118 : BitVec 32 := 7#32
  let v207 : BitVec 1 := Scalar.cmpi .ne v12 c7_i32_118
  let v208 : BitVec 32 := Scalar.extui v207
  let c0_i32_119 : BitVec 32 := 0#32
  let v209 : BitVec 1 := Scalar.cmpi .ne v208 c0_i32_119
  v209

def k0_off16 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off17 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev24 : Nat :=
  let c0_i32_210 : BitVec 32 := 0#32
  let c0_i32_206 : BitVec 32 := 0#32
  let c8_i32_209 : BitVec 32 := 8#32
  let v339 : BitVec 32 := Scalar.muli c0_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c3_i32_208 : BitVec 32 := 3#32
  let c1_i32_212 : BitVec 32 := 1#32
  let v343 : BitVec 32 := Scalar.muli c3_i32_208 c1_i32_212
  let v344 : BitVec 32 := Scalar.addi v342 v343
  v344.toNat
def k0_cond41 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_120 : BitVec 32 := 8#32
  let v210 : BitVec 1 := Scalar.cmpi .ne v12 c8_i32_120
  let v211 : BitVec 32 := Scalar.extui v210
  let c0_i32_121 : BitVec 32 := 0#32
  let v212 : BitVec 1 := Scalar.cmpi .ne v211 c0_i32_121
  v212

def k0_off18 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off19 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev25 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c0_i32_208 : BitVec 32 := 0#32
  let c1_i32_212 : BitVec 32 := 1#32
  let v343 : BitVec 32 := Scalar.muli c0_i32_208 c1_i32_212
  let v344 : BitVec 32 := Scalar.addi v342 v343
  v344.toNat
def k0_cond42 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32_122 : BitVec 32 := 9#32
  let v213 : BitVec 1 := Scalar.cmpi .ne v12 c9_i32_122
  let v214 : BitVec 32 := Scalar.extui v213
  let c0_i32_123 : BitVec 32 := 0#32
  let v215 : BitVec 1 := Scalar.cmpi .ne v214 c0_i32_123
  v215

def k0_off20 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off21 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev26 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c1_i32_208 : BitVec 32 := 1#32
  let c1_i32_212 : BitVec 32 := 1#32
  let v343 : BitVec 32 := Scalar.muli c1_i32_208 c1_i32_212
  let v344 : BitVec 32 := Scalar.addi v342 v343
  v344.toNat
def k0_cond43 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32_124 : BitVec 32 := 10#32
  let v216 : BitVec 1 := Scalar.cmpi .ne v12 c10_i32_124
  let v217 : BitVec 32 := Scalar.extui v216
  let c0_i32_125 : BitVec 32 := 0#32
  let v218 : BitVec 1 := Scalar.cmpi .ne v217 c0_i32_125
  v218

def k0_off22 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off23 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev27 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c2_i32_208 : BitVec 32 := 2#32
  let c1_i32_212 : BitVec 32 := 1#32
  let v343 : BitVec 32 := Scalar.muli c2_i32_208 c1_i32_212
  let v344 : BitVec 32 := Scalar.addi v342 v343
  v344.toNat
def k0_cond44 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32_126 : BitVec 32 := 11#32
  let v219 : BitVec 1 := Scalar.cmpi .ne v12 c11_i32_126
  let v220 : BitVec 32 := Scalar.extui v219
  let c0_i32_127 : BitVec 32 := 0#32
  let v221 : BitVec 1 := Scalar.cmpi .ne v220 c0_i32_127
  v221

def k0_off24 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off25 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev28 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c0_i32_207 : BitVec 32 := 0#32
  let c4_i32_211 : BitVec 32 := 4#32
  let v341 : BitVec 32 := Scalar.muli c0_i32_207 c4_i32_211
  let v342 : BitVec 32 := Scalar.addi v340 v341
  let c3_i32_208 : BitVec 32 := 3#32
  let c1_i32_212 : BitVec 32 := 1#32
  let v343 : BitVec 32 := Scalar.muli c3_i32_208 c1_i32_212
  let v344 : BitVec 32 := Scalar.addi v342 v343
  v344.toNat
def k0_cond45 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32_128 : BitVec 32 := 12#32
  let v222 : BitVec 1 := Scalar.cmpi .ne v12 c12_i32_128
  let v223 : BitVec 32 := Scalar.extui v222
  let c0_i32_129 : BitVec 32 := 0#32
  let v224 : BitVec 1 := Scalar.cmpi .ne v223 c0_i32_129
  v224

def k0_off26 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off27 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev29 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c0_i32_208 : BitVec 32 := 0#32
  let c1_i32_212 : BitVec 32 := 1#32
  let v343 : BitVec 32 := Scalar.muli c0_i32_208 c1_i32_212
  let v344 : BitVec 32 := Scalar.addi v342 v343
  v344.toNat
def k0_cond46 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32_130 : BitVec 32 := 13#32
  let v225 : BitVec 1 := Scalar.cmpi .ne v12 c13_i32_130
  let v226 : BitVec 32 := Scalar.extui v225
  let c0_i32_131 : BitVec 32 := 0#32
  let v227 : BitVec 1 := Scalar.cmpi .ne v226 c0_i32_131
  v227

def k0_off28 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off29 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev30 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c1_i32_208 : BitVec 32 := 1#32
  let c1_i32_212 : BitVec 32 := 1#32
  let v343 : BitVec 32 := Scalar.muli c1_i32_208 c1_i32_212
  let v344 : BitVec 32 := Scalar.addi v342 v343
  v344.toNat
def k0_cond47 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32_132 : BitVec 32 := 14#32
  let v228 : BitVec 1 := Scalar.cmpi .ne v12 c14_i32_132
  let v229 : BitVec 32 := Scalar.extui v228
  let c0_i32_133 : BitVec 32 := 0#32
  let v230 : BitVec 1 := Scalar.cmpi .ne v229 c0_i32_133
  v230

def k0_off30 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off31 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev31 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c2_i32_208 : BitVec 32 := 2#32
  let c1_i32_212 : BitVec 32 := 1#32
  let v343 : BitVec 32 := Scalar.muli c2_i32_208 c1_i32_212
  let v344 : BitVec 32 := Scalar.addi v342 v343
  v344.toNat
def k0_cond48 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32_134 : BitVec 32 := 15#32
  let v231 : BitVec 1 := Scalar.cmpi .ne v12 c15_i32_134
  let v232 : BitVec 32 := Scalar.extui v231
  let c0_i32_135 : BitVec 32 := 0#32
  let v233 : BitVec 1 := Scalar.cmpi .ne v232 c0_i32_135
  v233

def k0_off32 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off33 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_213 : BitVec 32 := 0#32
  let c0_i32_214 : BitVec 32 := 0#32
  ![v12.toNat, 0, 0]
def k0_dev32 : Nat :=
  let c0_i32_210 : BitVec 32 := 0#32
  let c1_i32_206 : BitVec 32 := 1#32
  let c8_i32_209 : BitVec 32 := 8#32
  let v339 : BitVec 32 := Scalar.muli c1_i32_206 c8_i32_209
  let v340 : BitVec 32 := Scalar.addi c0_i32_210 v339
  let c1_i32_207 : BitVec 32 := 1#32
  let c4_i32_211 : BitVec 32 := 4#32
  let v341 : BitVec 32 := Scalar.muli c1_i32_207 c4_i32_211
  let v342 : BitVec 32 := Scalar.addi v340 v341
  let c3_i32_208 : BitVec 32 := 3#32
  let c1_i32_212 : BitVec 32 := 1#32
  let v343 : BitVec 32 := Scalar.muli c3_i32_208 c1_i32_212
  let v344 : BitVec 32 := Scalar.addi v342 v343
  v344.toNat
def k0_cond65 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_173 : BitVec 32 := 0#32
  let v291 : BitVec 1 := Scalar.cmpi .ne v12 c0_i32_173
  let v292 : BitVec 32 := Scalar.extui v291
  let c0_i32_174 : BitVec 32 := 0#32
  let v293 : BitVec 1 := Scalar.cmpi .ne v292 c0_i32_174
  v293

def k0_off34 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond66 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_175 : BitVec 32 := 1#32
  let v294 : BitVec 1 := Scalar.cmpi .ne v12 c1_i32_175
  let v295 : BitVec 32 := Scalar.extui v294
  let c0_i32_176 : BitVec 32 := 0#32
  let v296 : BitVec 1 := Scalar.cmpi .ne v295 c0_i32_176
  v296

def k0_off35 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond67 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_177 : BitVec 32 := 2#32
  let v297 : BitVec 1 := Scalar.cmpi .ne v12 c2_i32_177
  let v298 : BitVec 32 := Scalar.extui v297
  let c0_i32_178 : BitVec 32 := 0#32
  let v299 : BitVec 1 := Scalar.cmpi .ne v298 c0_i32_178
  v299

def k0_off36 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond68 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32_179 : BitVec 32 := 3#32
  let v300 : BitVec 1 := Scalar.cmpi .ne v12 c3_i32_179
  let v301 : BitVec 32 := Scalar.extui v300
  let c0_i32_180 : BitVec 32 := 0#32
  let v302 : BitVec 1 := Scalar.cmpi .ne v301 c0_i32_180
  v302

def k0_off37 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond69 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_181 : BitVec 32 := 4#32
  let v303 : BitVec 1 := Scalar.cmpi .ne v12 c4_i32_181
  let v304 : BitVec 32 := Scalar.extui v303
  let c0_i32_182 : BitVec 32 := 0#32
  let v305 : BitVec 1 := Scalar.cmpi .ne v304 c0_i32_182
  v305

def k0_off38 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond70 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32_183 : BitVec 32 := 5#32
  let v306 : BitVec 1 := Scalar.cmpi .ne v12 c5_i32_183
  let v307 : BitVec 32 := Scalar.extui v306
  let c0_i32_184 : BitVec 32 := 0#32
  let v308 : BitVec 1 := Scalar.cmpi .ne v307 c0_i32_184
  v308

def k0_off39 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond71 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32_185 : BitVec 32 := 6#32
  let v309 : BitVec 1 := Scalar.cmpi .ne v12 c6_i32_185
  let v310 : BitVec 32 := Scalar.extui v309
  let c0_i32_186 : BitVec 32 := 0#32
  let v311 : BitVec 1 := Scalar.cmpi .ne v310 c0_i32_186
  v311

def k0_off40 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond72 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32_187 : BitVec 32 := 7#32
  let v312 : BitVec 1 := Scalar.cmpi .ne v12 c7_i32_187
  let v313 : BitVec 32 := Scalar.extui v312
  let c0_i32_188 : BitVec 32 := 0#32
  let v314 : BitVec 1 := Scalar.cmpi .ne v313 c0_i32_188
  v314

def k0_off41 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond73 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_189 : BitVec 32 := 8#32
  let v315 : BitVec 1 := Scalar.cmpi .ne v12 c8_i32_189
  let v316 : BitVec 32 := Scalar.extui v315
  let c0_i32_190 : BitVec 32 := 0#32
  let v317 : BitVec 1 := Scalar.cmpi .ne v316 c0_i32_190
  v317

def k0_off42 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond74 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32_191 : BitVec 32 := 9#32
  let v318 : BitVec 1 := Scalar.cmpi .ne v12 c9_i32_191
  let v319 : BitVec 32 := Scalar.extui v318
  let c0_i32_192 : BitVec 32 := 0#32
  let v320 : BitVec 1 := Scalar.cmpi .ne v319 c0_i32_192
  v320

def k0_off43 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond75 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32_193 : BitVec 32 := 10#32
  let v321 : BitVec 1 := Scalar.cmpi .ne v12 c10_i32_193
  let v322 : BitVec 32 := Scalar.extui v321
  let c0_i32_194 : BitVec 32 := 0#32
  let v323 : BitVec 1 := Scalar.cmpi .ne v322 c0_i32_194
  v323

def k0_off44 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond76 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32_195 : BitVec 32 := 11#32
  let v324 : BitVec 1 := Scalar.cmpi .ne v12 c11_i32_195
  let v325 : BitVec 32 := Scalar.extui v324
  let c0_i32_196 : BitVec 32 := 0#32
  let v326 : BitVec 1 := Scalar.cmpi .ne v325 c0_i32_196
  v326

def k0_off45 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond77 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32_197 : BitVec 32 := 12#32
  let v327 : BitVec 1 := Scalar.cmpi .ne v12 c12_i32_197
  let v328 : BitVec 32 := Scalar.extui v327
  let c0_i32_198 : BitVec 32 := 0#32
  let v329 : BitVec 1 := Scalar.cmpi .ne v328 c0_i32_198
  v329

def k0_off46 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond78 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32_199 : BitVec 32 := 13#32
  let v330 : BitVec 1 := Scalar.cmpi .ne v12 c13_i32_199
  let v331 : BitVec 32 := Scalar.extui v330
  let c0_i32_200 : BitVec 32 := 0#32
  let v332 : BitVec 1 := Scalar.cmpi .ne v331 c0_i32_200
  v332

def k0_off47 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond79 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32_201 : BitVec 32 := 14#32
  let v333 : BitVec 1 := Scalar.cmpi .ne v12 c14_i32_201
  let v334 : BitVec 32 := Scalar.extui v333
  let c0_i32_202 : BitVec 32 := 0#32
  let v335 : BitVec 1 := Scalar.cmpi .ne v334 c0_i32_202
  v335

def k0_off48 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
def k0_cond80 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32_203 : BitVec 32 := 15#32
  let v336 : BitVec 1 := Scalar.cmpi .ne v12 c15_i32_203
  let v337 : BitVec 32 := Scalar.extui v336
  let c0_i32_204 : BitVec 32 := 0#32
  let v338 : BitVec 1 := Scalar.cmpi .ne v337 c0_i32_204
  v338

def k0_off49 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_210 : BitVec 32 := 0#32
  let c0_i32_211 : BitVec 32 := 0#32
  ![v12.toNat, 0, 0]
abbrev stage0_0 : Fin 1 → Memref sig .tc .vmem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512 : Shape := ⟨1, ![512]⟩
abbrev S512x16384 : Shape := ⟨2, ![512, 16384]⟩
abbrev S_ : Shape := ⟨0, ![]⟩
abbrev S512x1 : Shape := ⟨2, ![512, 1]⟩
abbrev S512x2 : Shape := ⟨2, ![512, 2]⟩

abbrev nBuf : Space → Nat
  | .hbm => 36
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512, .i32⟩
  | .hbm, ⟨3, _⟩ => ⟨S512x16384, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x16384, .f32⟩
  | .hbm, ⟨8, _⟩ => ⟨S512x16384, .f32⟩
  | .hbm, ⟨9, _⟩ => ⟨S512x16384, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512, .f32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x1, .i32⟩
  | .hbm, ⟨33, _⟩ => ⟨S512x2, .i32⟩
  | .hbm, ⟨34, _⟩ => ⟨S512, .f32⟩
  | .hbm, ⟨35, _⟩ => ⟨S512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Cells.lean ====
/-
# The protocol: buffers, semaphore cells, contents, schedule

Sixteen devices exchange one pair of rows each: device `c` puts its partial sums (two rows of 512
numbers) into slot `c` of every other device's gather buffer.  Written down here, per device `c`:

* the barrier cell: fifteen duties, one unit each, paid by the other devices `j`; with its unit, `j` hands over
  slot `c` of its own gather buffer, at whatever contents.  Device `c` waits for fifteen.
* the send cell `i` (`i ≠ c`): one duty, the credit of one slot, paid when the copy to device `i` has been read;
  it hands back the `i`-th share of the partial sums.
* the receive cell `j` (`j ≠ c`): one duty, the credit of one slot, paid when device `j`'s copy lands; it hands over
  slot `j` of device `c`'s gather buffer, holding device `j`'s partial sums.
* the send and receive cells named by `c` itself have no duty.

Levels: receive cells at 2, barrier cells at 1, everything else at 0.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra: the pipeline library's copy, the exchange's rounds, the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr)).trans
    (uEmb (nD := nD) (sig := sig) (Ix := Unit) (Val := Elt F) (Name := ℕ) (U := UU) (Lvl := ℕ)).toEmb
instance ER_landsIn : (ER (F := F)).LandsIn (upEmb : UEmb _ 𝕄) := by unfold ER; infer_instance
abbrev EC : UEmb Counters 𝕄 := countersEmb

/-! ## Buffers -/

abbrev xM : Memref sig .tc .vmem S512x1024 .f32 := Memref.whole cc0_scratch0
abbrev wM : Memref sig .tc .vmem S1024x1024 .f32 := Memref.whole cc0_scratch1
abbrev sM : Memref sig .tc .vmem S2x512 .f32 := Memref.whole cc0_scratch2
abbrev gM : Memref sig .tc .vmem S16x2x512 .f32 := Memref.whole cc0_scratch3
abbrev lM : Memref sig .tc .vmem S512 .i32 := Memref.whole cc0_stg0_0
abbrev oM : Memref sig .tc .vmem S512 .f32 := Memref.whole cc0_stg1_0
abbrev aX : Memref sig .tc .hbm S512x1024 .f32 := Memref.whole main_arg0
abbrev aW : Memref sig .tc .hbm S1024x8192 .f32 := Memref.whole main_arg1

/-- A device's number as an offset into the gather buffer stays inside it. -/
theorem slot_inb (i : Dev nD) : ∀ a, (![i.val, 0, 0] : Fin 3 → ℕ) a + S1x2x512.size a ≤ S16x2x512.size a := by
  revert i; decide

/-- Slot `i` of the gather buffer: two rows of 512. -/
abbrev slotM (i : Dev nD) : Memref sig .tc .vmem S2x512 .f32 :=
  (gM.slice (Rect.unit (s := S16x2x512) ![i.val, 0, 0] S1x2x512.size (slot_inb i)) (fun _ => rfl)).squeeze S2x512 squeezes_S1x2x512_S2x512

/-- The credit of one slot. -/
abbrev N : ℕ := sM.view.dmaCredit
theorem N_pos : 0 < N := View.dmaCredit_pos _ (by decide)

/-! ## Cells -/

theorem sem_inb (i : Dev nD) : ∀ a, (![i.val] : Fin 1 → ℕ) a + S1.size a ≤ S16.size a := by
  revert i; decide

abbrev barS : Sem sig := (SemArray.scalar (sig.barrier 0 rfl) : Sems sig S_).sem
abbrev sndS (i : Dev nD) : DmaSem sig :=
  ((cc0_scratch5.slice (Rect.unit (s := S16) ![i.val] S1.size (sem_inb i))).squeeze S_ squeezes_S1_S_).sem
abbrev rcvS (i : Dev nD) : DmaSem sig :=
  ((cc0_scratch6.slice (Rect.unit (s := S16) ![i.val] S1.size (sem_inb i))).squeeze S_ squeezes_S1_S_).sem

theorem sndS_val : ∀ i : Dev nD, (sndS i).val = 5 + i.val := by decide +kernel
theorem rcvS_val : ∀ i : Dev nD, (rcvS i).val = 21 + i.val := by decide +kernel

/-- A cell of the exchange, on some device: the barrier cell (`none`), the send cell `i` (`some (false, i)`), the receive
    cell `j` (`some (true, j)`). -/
abbrev CI : Type := Option (Bool × Dev nD)

def csem : CI → SemLoc sig
  | none => .reg barS
  | some (false, i) => .dma (sndS i)
  | some (true, j) => .dma (rcvS j)

/-- Which cell of the exchange a semaphore is. -/
def cls : SemLoc sig → Option CI
  | .reg s => if s = barS then some none else none
  | .dma q =>
    if h : 5 ≤ q.val ∧ q.val < 21 then some (some (false, (⟨q.val - 5, by omega⟩ : Fin 16)))
    else if h : 21 ≤ q.val ∧ q.val < 37 then some (some (true, (⟨q.val - 21, by omega⟩ : Fin 16)))
    else none

theorem cls_csem (k : CI) : cls (csem k) = some k := by
  rcases k with _ | ⟨_ | _, i⟩
  · unfold csem cls; exact if_pos rfl
  · have h := sndS_val i; have hi : i.val < 16 := i.isLt
    unfold csem cls; dsimp only
    rw [dif_pos (by omega)]
    exact congrArg (fun x => some (some (false, x))) (Fin.ext (by show (sndS i).val - 5 = i.val; omega))
  · have h := rcvS_val i; have hi : i.val < 16 := i.isLt
    unfold csem cls; dsimp only
    rw [dif_neg (by omega), dif_pos (by omega)]
    exact congrArg (fun x => some (some (true, x))) (Fin.ext (by show (rcvS i).val - 21 = i.val; omega))

theorem csem_injective : Function.Injective csem := fun a b h =>
  Option.some.inj ((cls_csem a).symm.trans ((congrArg cls h).trans (cls_csem b)))

abbrev kcell (ck : Dev nD × CI) : GSem nD τ sig := ((ck.1 : Thread nD τ), csem ck.2)

abbrev barC (c : Dev nD) : GSem nD τ sig := ((c : Thread nD τ), .reg barS)
abbrev sndC (c i : Dev nD) : GSem nD τ sig := ((c : Thread nD τ), .dma (sndS i))
abbrev rcvC (c j : Dev nD) : GSem nD τ sig := ((c : Thread nD τ), .dma (rcvS j))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## Contents and points-tos -/

/-- The gather buffer when device `j`'s pair of rows `st j` lies in slot `j`, for every `j`. -/
def gat (st : Dev nD → S2x512.Idx → F .f32) : S16x2x512.Idx → F .f32 :=
  fun i => st (i 0 : Fin 16) (ix2 (i 1 : Fin 2) (i 2 : Fin 512))

/-- Slot `i` of device `c`'s gather buffer, at contents `f`. -/
def slotPts (c i : Dev nD) (f : S16x2x512.Idx → F .f32) : sProp 𝕄 :=
  (slotM i).view.loc (c : Thread nD τ) ↦[(slotM i).view.set]{fullShare} (f : Buf (Elt F) ((slotM i).view.loc (c : Thread nD τ)))

/-- Device `c`'s pair of rows at contents `f`, share `q`. -/
def rowsPts (c : Dev nD) (q : PosShare TreeShare) (f : S2x512.Idx → F .f32) : sProp 𝕄 :=
  sM.view.loc (c : Thread nD τ) ↦[sM.view.set]{q} (f : Buf (Elt F) (sM.view.loc (c : Thread nD τ)))

instance slotPts_storable (c i : Dev nD) (f : S16x2x512.Idx → F .f32) : BI.Storable (upEmb : UEmb _ 𝕄) (slotPts (F := F) c i f) := by
  unfold slotPts; infer_instance
instance rowsPts_storable (c : Dev nD) (q) (f : S2x512.Idx → F .f32) : BI.Storable (upEmb : UEmb _ 𝕄) (rowsPts (F := F) c q f) := by
  unfold rowsPts; infer_instance

/-- A slot's element at `(a, b)` is the gather buffer's at `(i, a, b)`. -/
theorem slot_emb (i : Dev nD) (y : S2x512.Idx) :
    (slotM i).view.emb y = ix3 (i : Fin 16) (y 0 : Fin 2) (y 1 : Fin 512) := by
  show (Rect.unit (s := S16x2x512) ![i.val, 0, 0] S1x2x512.size (slot_inb i)).emb (Shape.reshapeEquiv squeezes_S1x2x512_S2x512.numel_eq y) = _
  rw [show Shape.reshapeEquiv squeezes_S1x2x512_S2x512.numel_eq y = ix3 (⟨0, Nat.one_pos⟩ : Fin 1) (y 0 : Fin 2) (y 1 : Fin 512) from
    (congrArg _ (eq_ix2 (n0 := 2) (n1 := 512) y)).trans (reshapeEquiv_ix2_1ab _ _ _)]
  funext a
  apply Fin.ext
  fin_cases a <;> simp [Rect.emb, ix3, Rect.unit]

/-- The elements of slot `i` are those whose first coordinate is `i`. -/
theorem mem_slot (i : Dev nD) (x : S16x2x512.Idx) : x ∈ (slotM i).view.set ↔ (x 0).val = i.val := by
  constructor
  · intro h
    obtain ⟨y, -, rfl⟩ := Finset.mem_map.mp h
    rw [slot_emb]
    first | done | rfl
  · intro h
    have hx : x = (slotM i).view.emb (ix2 (x 1 : Fin 2) (x 2 : Fin 512)) := by
      rw [slot_emb]
      funext a
      apply Fin.ext
      fin_cases a
      · exact h
      · rfl
      · rfl
    rw [hx]
    exact View.emb_mem_set _ _

/-- Only slot `i`'s elements matter to a slot's points-to. -/
theorem slotPts_congr (c i : Dev nD) (f g : S16x2x512.Idx → F .f32)
    (h : ∀ (a : Fin 2) (b : Fin 512), f (ix3 (i : Fin 16) a b) = g (ix3 (i : Fin 16) a b)) : slotPts c i f = slotPts c i g := by
  unfold slotPts
  refine pointsTo_congr fun x hx => ?_
  obtain ⟨y, -, rfl⟩ := Finset.mem_map.mp hx
  rw [slot_emb]
  exact h _ _

/-- What a copy of rows `f` leaves in slot `i`. -/
theorem slot_write (c i : Dev nD) (fd : S16x2x512.Idx → F .f32) (f : Dev nD → S2x512.Idx → F .f32) :
    slotPts c i ((slotM i).view.write (Elt F) fd (sM.view.read (Elt F) (f i)) Finset.univ) = slotPts (F := F) c i (gat f) := by
  refine slotPts_congr c i _ _ fun a b => ?_
  have h := slot_emb i (ix2 a b)
  rw [show (ix3 (i : Fin 16) a b : S16x2x512.Idx) = (slotM i).view.emb (ix2 a b) from h.symm,
    View.write_emb_of_mem _ _ (Finset.mem_univ _)]
  rw [h]
  rfl

abbrev gatherLoc (c : Dev nD) : Loc nD τ sig := (c : Thread nD τ).loc cc0_scratch3

/-- The elements of slot `i` of device `c`'s gather buffer. -/
def slotSet (c i : Dev nD) : Finset (Idx (gatherLoc c)) := (slotM i).view.set

theorem mem_slotSet (c i : Dev nD) (x : S16x2x512.Idx) : (x : Idx (gatherLoc c)) ∈ slotSet c i ↔ (x 0).val = i.val := mem_slot i x

theorem slotSet_disjoint (c i j : Dev nD) (hij : i ≠ j) : Disjoint (slotSet c i) (slotSet c j) := by
  rw [Finset.disjoint_left]
  intro x hx hx'
  exact hij (Fin.ext (((mem_slotSet c i x).mp hx).symm.trans ((mem_slotSet c j x).mp hx')))

theorem slotSet_cover (c : Dev nD) : Finset.univ.biUnion (slotSet c) = Finset.univ :=
  Finset.ext fun x => ⟨fun _ => Finset.mem_univ _,
    fun _ => Finset.mem_biUnion.mpr ⟨((show S16x2x512.Idx from x) 0 : Fin 16), Finset.mem_univ _, (mem_slotSet c _ x).mpr rfl⟩⟩

theorem slotPts_eq (c i : Dev nD) (f : S16x2x512.Idx → F .f32) :
    slotPts c i f = (gatherLoc c ↦[slotSet c i]{fullShare} (f : Buf (Elt F) (gatherLoc c)) : sProp 𝕄) := rfl

/-- The gather buffer whole is its sixteen slots. -/
theorem gather_split (c : Dev nD) (f : S16x2x512.Idx → F .f32) :
    (gatherLoc c ↦{fullShare} (f : Buf (Elt F) (gatherLoc c)) : sProp 𝕄)
      = bigSep Finset.univ fun i : Dev nD => slotPts c i f := by
  rw [bigSep_congr fun i _ => slotPts_eq c i f]
  exact Idealize.ShloMosaic.Ring.pointsTo_blocks (Ix := Unit) (Val := Elt F) (Name := ℕ) (U := UU) (Lvl := ℕ) (ℓ := gatherLoc c) (q := fullShare) (slotSet c) (slotSet_disjoint c) (slotSet_cover c) f

theorem rows_set : (sM.view.set : Finset S2x512.Idx) = Finset.univ := View.set_whole _

theorem rowsPts_eq (c : Dev nD) (q : PosShare TreeShare) (f : S2x512.Idx → F .f32) :
    rowsPts c q f = (((c : Thread nD τ).loc cc0_scratch2) ↦{q} (f : Buf (Elt F) ((c : Thread nD τ).loc cc0_scratch2)) : sProp 𝕄) := by
  unfold rowsPts; rw [View.set_whole]

/-! ## The schedule -/

/-- With its unit on device `d`'s barrier cell, device `j` hands over slot `d` of its gather buffer. -/
def barPay (d j : Dev nD) : sProp 𝕄 := iprop(∃ f : S16x2x512.Idx → F .f32, slotPts j d f)

variable (st : Dev nD → S2x512.Idx → F .f32)

/-- The share of the rows lent to the copy to device `i`. -/
abbrev lent (i : Dev nD) : PosShare TreeShare := Transfers.shareTok fullShare 16 i

def dutiesOf (c : Dev nD) : CI → Finset (Dev nD)
  | none => Finset.univ.erase c
  | some (_, i) => if i = c then ∅ else {i}

def amountOf' : CI → ℕ
  | none => 1
  | some _ => N

def payOf (c : Dev nD) : CI → Dev nD → sProp 𝕄
  | none, j => barPay (F := F) c j
  | some (false, i), _ => rowsPts c (lent i) (st c)
  | some (true, j), _ => slotPts c j (gat st)

def exRd : Rounds.Schedule (GSem nD τ sig) (Dev nD) 𝕄 where
  duties g r := if r = 0 ∧ g.1.2 = .tc then (match cls g.2 with | some k => dutiesOf g.1.1 k | none => ∅) else ∅
  unitless _ := False
  amount g _ _ := match cls g.2 with | some k => amountOf' k | none => 1
  payload g _ d := match cls g.2 with | some k => payOf st g.1.1 k d | none => iprop(emp)
  amount_pos g _ _ _ := by
    rcases cls g.2 with _ | _ | k
    · exact Nat.one_pos
    · exact Nat.one_pos
    · exact N_pos

instance payOf_storable (c : Dev nD) (k : CI) (d : Dev nD) : BI.Storable (upEmb : UEmb _ 𝕄) (payOf (F := F) st c k d) := by
  rcases k with _ | ⟨_ | _, i⟩ <;> (unfold payOf; dsimp only; try unfold barPay) <;> infer_instance

instance exRd_payload_storable (g : GSem nD τ sig) (r : ℕ) (d : Dev nD) :
    BI.Storable (upEmb : UEmb _ 𝕄) ((exRd (F := F) st).payload g r d) := by
  dsimp only [exRd]
  split <;> infer_instance

theorem duties_eq (c : Dev nD) (k : CI) : (exRd (F := F) st).duties (kcell (c, k)) 0 = dutiesOf c k := by
  dsimp only [exRd]; rw [if_pos ⟨rfl, rfl⟩, cls_csem]
theorem amount_eq (c : Dev nD) (k : CI) (d : Dev nD) : (exRd (F := F) st).amount (kcell (c, k)) 0 d = amountOf' k := by
  dsimp only [exRd]; rw [cls_csem]
theorem payload_eq (c : Dev nD) (k : CI) (d : Dev nD) : (exRd (F := F) st).payload (kcell (c, k)) 0 d = payOf st c k d := by
  dsimp only [exRd]; rw [cls_csem]
theorem payload_bar (i j : Dev nD) : (exRd (F := F) st).payload (barC i) 0 j = barPay i j := payload_eq st i none j
theorem payload_snd (c i d : Dev nD) : (exRd (F := F) st).payload (sndC c i) 0 d = rowsPts c (lent i) (st c) := payload_eq st c (some (false, i)) d
theorem payload_rcv (c j d : Dev nD) : (exRd (F := F) st).payload (rcvC c j) 0 d = slotPts c j (gat st) := payload_eq st c (some (true, j)) d
theorem amount_bar (i j : Dev nD) : (exRd (F := F) st).amount (barC i) 0 j = 1 := amount_eq st i none j
theorem amount_snd (c i d : Dev nD) : (exRd (F := F) st).amount (sndC c i) 0 d = N := amount_eq st c (some (false, i)) d
theorem amount_rcv (c j d : Dev nD) : (exRd (F := F) st).amount (rcvC c j) 0 d = N := amount_eq st c (some (true, j)) d
theorem mem_bar (i c : Dev nD) (h : i ≠ c) : c ∈ (exRd (F := F) st).duties (barC i) 0 := by
  show c ∈ (exRd (F := F) st).duties (kcell (i, none)) 0
  rw [duties_eq]; exact Finset.mem_erase.mpr ⟨h.symm, Finset.mem_univ _⟩
theorem mem_snd (c i : Dev nD) (h : i ≠ c) : i ∈ (exRd (F := F) st).duties (sndC c i) 0 := by
  show i ∈ (exRd (F := F) st).duties (kcell (c, some (false, i))) 0
  rw [duties_eq, show dutiesOf c (some (false, i)) = {i} from if_neg h]; exact Finset.mem_singleton_self _
theorem mem_rcv (c j : Dev nD) (h : j ≠ c) : j ∈ (exRd (F := F) st).duties (rcvC c j) 0 := by
  show j ∈ (exRd (F := F) st).duties (kcell (c, some (true, j))) 0
  rw [duties_eq, show dutiesOf c (some (true, j)) = {j} from if_neg h]; exact Finset.mem_singleton_self _
theorem duties_later (g : GSem nD τ sig) : ∀ r, 1 ≤ r → (exRd (F := F) st).duties g r = ∅ :=
  fun r hr => by dsimp only [exRd]; rw [if_neg fun h => by omega]

/-- A send or receive cell named by its own device has no duty at all. -/
theorem duties_own (c : Dev nD) (b : Bool) : ∀ r, 0 ≤ r → (exRd (F := F) st).duties (kcell (c, some (b, c))) r = ∅ := by
  intro r _
  rcases Nat.eq_zero_or_pos r with rfl | hr
  · rw [duties_eq]; exact if_pos rfl
  · exact duties_later st _ r hr

theorem expect_bar (c : Dev nD) : (exRd (F := F) st).expect (barC c) 0 = 15 := by
  show (exRd (F := F) st).expect (kcell (c, none)) 0 = 15
  unfold Schedule.expect Schedule.amountOf
  rw [duties_eq, Finset.sum_congr rfl fun d _ => amount_eq st c none d]
  show ∑ _ ∈ Finset.univ.erase c, 1 = 15
  rw [Finset.sum_const, Finset.card_erase_of_mem (Finset.mem_univ _), Finset.card_univ]
  rfl

theorem expect_xfer (c i : Dev nD) (b : Bool) (h : i ≠ c) : (exRd (F := F) st).expect (kcell (c, some (b, i))) 0 = N := by
  unfold Schedule.expect Schedule.amountOf
  rw [duties_eq, show dutiesOf c (some (b, i)) = {i} from if_neg h, Finset.sum_singleton, amount_eq]
  rfl

theorem rest_bar (c : Dev nD) : bigSep ((exRd (F := F) st).duties (barC c) 0 \ ∅) (fun d => (exRd (F := F) st).payload (barC c) 0 d)
    = bigSep (Finset.univ.erase c) fun j => barPay (F := F) c j := by
  rw [Finset.sdiff_empty]
  show bigSep ((exRd (F := F) st).duties (kcell (c, none)) 0) (fun d => (exRd (F := F) st).payload (kcell (c, none)) 0 d) = _
  rw [duties_eq, bigSep_congr fun d _ => payload_eq st c none d]
  rfl

theorem expect_snd (c i : Dev nD) (h : i ≠ c) : (exRd (F := F) st).expect (sndC c i) 0 = N := expect_xfer st c i false h
theorem expect_rcv (c j : Dev nD) (h : j ≠ c) : (exRd (F := F) st).expect (rcvC c j) 0 = N := expect_xfer st c j true h

theorem rest_xfer (c i : Dev nD) (b : Bool) (h : i ≠ c) :
    bigSep ((exRd (F := F) st).duties (kcell (c, some (b, i))) 0 \ ∅) (fun d => (exRd (F := F) st).payload (kcell (c, some (b, i))) 0 d)
      = payOf st c (some (b, i)) i := by
  rw [Finset.sdiff_empty, duties_eq, show dutiesOf c (some (b, i)) = {i} from if_neg h, bigSep_singleton, payload_eq]

theorem rest_snd (c i : Dev nD) (h : i ≠ c) : bigSep ((exRd (F := F) st).duties (sndC c i) 0 \ ∅) (fun d => (exRd (F := F) st).payload (sndC c i) 0 d)
    = rowsPts c (lent i) (st c) := rest_xfer st c i false h
theorem rest_rcv (c j : Dev nD) (h : j ≠ c) : bigSep ((exRd (F := F) st).duties (rcvC c j) 0 \ ∅) (fun d => (exRd (F := F) st).payload (rcvC c j) 0 d)
    = slotPts c j (gat st) := rest_xfer st c j true h

/-! ## Walking through the sixteen devices in order -/

/-- The other devices not yet visited, the first `n` being done; -/
def todo (c : Dev nD) (n : ℕ) : Finset (Dev nD) := Finset.univ.filter fun i => n ≤ i.val ∧ i ≠ c
/-- those already visited. -/
def done (c : Dev nD) (n : ℕ) : Finset (Dev nD) := Finset.univ.filter fun i => i.val < n ∧ i ≠ c

theorem todo_zero (c : Dev nD) : todo c 0 = Finset.univ.erase c := by
  ext i; simp [todo]
theorem done_zero (c : Dev nD) : done c 0 = ∅ := by
  ext i; simp [done]
theorem todo_end (c : Dev nD) : todo c 16 = ∅ := by
  ext i
  have hi : i.val < 16 := i.isLt
  simp only [todo, Finset.mem_filter, Finset.mem_univ, true_and, Finset.notMem_empty, iff_false, not_and]
  omega
theorem done_end (c : Dev nD) : done c 16 = Finset.univ.erase c := by
  ext i
  have hi : i.val < 16 := i.isLt
  simp [done, hi]
theorem todo_skip (c : Dev nD) (n : ℕ) (h : c.val = n) : todo c (n + 1) = todo c n := by
  ext i
  simp only [todo, Finset.mem_filter, Finset.mem_univ, true_and, ne_eq, Fin.ext_iff]
  omega
theorem done_skip (c : Dev nD) (n : ℕ) (h : c.val = n) : done c (n + 1) = done c n := by
  ext i
  simp only [done, Finset.mem_filter, Finset.mem_univ, true_and, ne_eq, Fin.ext_iff]
  omega
theorem todo_step (c i : Dev nD) (h : i ≠ c) : todo c i.val = insert i (todo c (i.val + 1)) := by
  ext j
  rw [ne_eq, Fin.ext_iff] at h
  simp only [todo, Finset.mem_insert, Finset.mem_filter, Finset.mem_univ, true_and, ne_eq, Fin.ext_iff]
  omega
theorem done_step (c i : Dev nD) (h : i ≠ c) : done c (i.val + 1) = insert i (done c i.val) := by
  ext j
  rw [ne_eq, Fin.ext_iff] at h
  simp only [done, Finset.mem_insert, Finset.mem_filter, Finset.mem_univ, true_and, ne_eq, Fin.ext_iff]
  omega
theorem not_mem_todo (c i : Dev nD) : i ∉ todo c (i.val + 1) := by
  simp [todo]
theorem not_mem_done (c i : Dev nD) : i ∉ done c i.val := by
  simp [done]

theorem bigSep_put {i : Dev nD} {s : Finset (Dev nD)} (h : i ∉ s) (Φ : Dev nD → sProp 𝕄) :
    bigSep (insert i s) Φ = iprop(Φ i ∗ bigSep s Φ) := bigSep_insert h

/-- The resources of a walk after `n` devices: `A` of the devices still to come, `B` of those visited. -/
def walk (c : Dev nD) (n : ℕ) (A B : Dev nD → sProp 𝕄) : sProp 𝕄 := iprop(bigSep (todo c n) A ∗ bigSep (done c n) B)

theorem walk_skip (c i : Dev nD) (h : i = c) (A B : Dev nD → sProp 𝕄) : walk c (i.val + 1) A B = walk (F := F) c i.val A B := by
  subst h; unfold walk; rw [todo_skip _ _ rfl, done_skip _ _ rfl]

theorem walk_step (c i : Dev nD) (h : i ≠ c) (A B : Dev nD → sProp 𝕄) :
    walk (F := F) c i.val A B ⊢ iprop(A i ∗ (B i -∗ walk c (i.val + 1) A B)) := by
  unfold walk
  rw [todo_step c i h, bigSep_put (not_mem_todo c i), done_step c i h, bigSep_put (not_mem_done c i)]
  iintro ⟨⟨Ha, Ht⟩, Hd⟩
  isplitl [Ha]; · iexact Ha
  iintro Hb
  isplitl [Ht]; · iexact Ht
  isplitl [Hb] <;> iassumption

theorem walk_start (c : Dev nD) (A B : Dev nD → sProp 𝕄) : bigSep (Finset.univ.erase c) A ⊢ walk (F := F) c 0 A B := by
  unfold walk; rw [todo_zero, done_zero, bigSep_empty]
  exact Laws.sep_emp.2
theorem walk_end (c : Dev nD) (A B : Dev nD → sProp 𝕄) : walk (F := F) c 16 A B ⊢ bigSep (Finset.univ.erase c) B := by
  unfold walk; rw [todo_end, done_end, bigSep_empty]
  exact BIClass.emp_sep.1

/-! ## What each device owes; the levels -/

/-- The units still owed to the barrier cells after `n` devices; -/
def barO (c : Dev nD) (n : ℕ) : CellTallies nD τ sig Unit := ∑ i ∈ todo c n, tallyAt (barC i) () 1
/-- the slots' credits still owed to the receive cells. -/
def rcvO (c : Dev nD) (n : ℕ) : CellTallies nD τ sig Unit := ∑ i ∈ todo c n, tallyAt (rcvC i c) () N
def O₀ (c : Dev nD) : CellTallies nD τ sig Unit := rcvO c 0 + barO c 0

theorem barO_step (c i : Dev nD) (h : i ≠ c) : barO c i.val = barO c (i.val + 1) + tallyAt (barC i) () 1 := by
  unfold barO; rw [todo_step c i h, Finset.sum_insert (not_mem_todo c i), add_comm]
theorem barO_skip (c i : Dev nD) (h : i = c) : barO c (i.val + 1) = barO c i.val := by
  subst h; unfold barO; rw [todo_skip _ _ rfl]
theorem barO_end (c : Dev nD) : barO c 16 = 0 := by
  unfold barO; rw [todo_end, Finset.sum_empty]
theorem rcvO_step (c i : Dev nD) (h : i ≠ c) : rcvO c i.val = rcvO c (i.val + 1) + tallyAt (rcvC i c) () N := by
  unfold rcvO; rw [todo_step c i h, Finset.sum_insert (not_mem_todo c i), add_comm]
theorem rcvO_skip (c i : Dev nD) (h : i = c) : rcvO c (i.val + 1) = rcvO c i.val := by
  subst h; unfold rcvO; rw [todo_skip _ _ rfl]
theorem rcvO_end (c : Dev nD) : rcvO c 16 = 0 := by
  unfold rcvO; rw [todo_end, Finset.sum_empty]

def L (g : GSem nD τ sig) : Finset Unit := if g.1.2 = .tc then {()} else ∅
def lvOf : Option CI → ℕ
  | some none => 1
  | some (some (true, _)) => 2
  | _ => 0
def lv (g : GSem nD τ sig) (_ : Unit) : ℕ := lvOf (cls g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := by
  show lvOf (cls (csem none)) = 1; rw [cls_csem]; rfl
theorem lv_rcv (c j : Dev nD) : lv (rcvC c j) () = 2 := by
  show lvOf (cls (csem (some (true, j)))) = 2; rw [cls_csem]; rfl

theorem sum_tally_pos {s : Finset (Dev nD)} {f : Dev nD → GSem nD τ sig} {k : ℕ} {g : GSem nD τ sig} {u : Unit}
    (h : 0 < (∑ i ∈ s, tallyAt (Ix := Unit) (f i) () k : CellTallies nD τ sig Unit) g u) : ∃ i, g = f i := by
  by_contra hn
  rw [Finset.sum_apply, Finsupp.finset_sum_apply] at h
  rw [Finset.sum_eq_zero fun i _ => ?_] at h
  · exact Nat.lt_irrefl 0 h
  · rw [tallyAt_apply, if_neg fun h' => hn ⟨i, h'.1⟩]

theorem rcvO_pos {c : Dev nD} {n : ℕ} {g : GSem nD τ sig} {u : Unit} (h : 0 < rcvO c n g u) : ∃ i, g = rcvC i c :=
  sum_tally_pos (f := fun i => rcvC i c) h
theorem O₀_pos {c : Dev nD} {g : GSem nD τ sig} {u : Unit} (h : 0 < O₀ c g u) : (∃ i, g = rcvC i c) ∨ ∃ i, g = barC i := by
  unfold O₀ at h
  rw [Pi.add_apply, Finsupp.add_apply] at h
  rcases Nat.eq_zero_or_pos (rcvO c 0 g u) with h0 | h0
  · rw [h0, zero_add] at h
    exact .inr (sum_tally_pos (f := fun i => barC i) h)
  · exact .inl (rcvO_pos h0)

/-- A wait on a cell of level 0 while owing anything owed at launch, or nothing. -/
theorem mayWait_zero (c : Dev nD) (sm : SemLoc sig) (h0 : lvOf (cls sm) = 0) (O : CellTallies nD τ sig Unit)
    (hO : O = O₀ c ∨ O = 0 ∨ ∃ n, O = rcvO c n) :
    (levAts L lv : sProp 𝕄) ⊢ MayWait (c : Thread nD τ) sm () O := by
  have hpos : ∀ g u, 0 < O g u → (∃ i j, g = rcvC i j) ∨ ∃ i, g = barC i := by
    intro g u hg
    rcases hO with rfl | rfl | ⟨n, rfl⟩
    · rcases O₀_pos hg with ⟨i, h⟩ | h
      · exact .inl ⟨i, c, h⟩
      · exact .inr h
    · exact absurd hg (Nat.lt_irrefl 0)
    · obtain ⟨i, h⟩ := rcvO_pos hg; exact .inl ⟨i, c, h⟩
  refine MayOwe.of_cut (L := L) (lev := lv) 0 (fun p hp => by rw [Finset.mem_singleton.mp hp, L_tc]; exact Finset.mem_singleton_self _)
    (fun g u hg => by rcases hpos g u hg with ⟨i, j, rfl⟩ | ⟨i, rfl⟩ <;> exact Finset.mem_singleton_self _)
    (fun p hp => by rw [Finset.mem_singleton.mp hp]; exact h0.le)
    (fun g u hg => by
      rcases hpos g u hg with ⟨i, j, rfl⟩ | ⟨i, rfl⟩
      · rw [lv_rcv]; decide
      · rw [lv_bar]; decide)

/-- The wait on the barrier cell while owing the receive cells' credits. -/
theorem mayWait_bar (c : Dev nD) (n : ℕ) : (levAts L lv : sProp 𝕄) ⊢ MayWait (c : Thread nD τ) (.reg barS) () (rcvO c n) :=
  MayOwe.of_cut (L := L) (lev := lv) 1 (fun p hp => by rw [Finset.mem_singleton.mp hp, L_tc]; exact Finset.mem_singleton_self _)
    (fun g u hg => by obtain ⟨i, rfl⟩ := rcvO_pos hg; exact Finset.mem_singleton_self _)
    (fun p hp => by rw [Finset.mem_singleton.mp hp]; exact (lv_bar c).le)
    (fun g u hg => by obtain ⟨i, rfl⟩ := rcvO_pos hg; rw [lv_rcv]; decide)

end Cert.Exchange

end
-- ==== Proof.Steps.lean ====
/-
# One step of each of the five walks

The kernel walks five times through the sixteen devices: it signals the others, it stores its own rows, it sends them,
it waits for what it receives and it waits for what it has sent.  Each walk is written out in the program as sixteen
conditional operations.  Here is one lemma per walk for one such operation followed by any rest of the program.
-/
module

public import proofs.«01_k».proof.Proof.Cells

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

abbrev 𝒱₀ : Variants := Variants.none

abbrev PR (F : FTy → Type) [FloatOps F] (α : Type) : Type 1 := Prog (TpuEff nD τ sig (Elt F) Λ₀ .tc) α

/-- The weakest precondition of a program of device `c`'s core. -/
abbrev WP (c : Dev nD) {α : Type} (p : PR F α) (Q : α → sProp 𝕄) : sProp 𝕄 :=
  wp frame (wpE (defs₀ (F := F)) 𝒱₀ (c : Thread nD τ) none) Set.univ p Q

variable (st : Dev nD → S2x512.Idx → F .f32) (K : Dev nD × CI → ℕ)

/-- Every cell's invariant, and that every cell has reached its round. -/
def invs : sProp 𝕄 :=
  bigSep Finset.univ fun ck : Dev nD × CI => iprop(cellInv ER (exRd st) (K ck) (kcell ck) ∗ reached ER (kcell ck) 0)

instance invs_persistent : BI.Persistent (invs (F := F) st K) := by unfold invs; infer_instance

theorem invs_at (ck : Dev nD × CI) : invs st K ⊢ (iprop(cellInv ER (exRd st) (K ck) (kcell ck) ∗ reached ER (kcell ck) 0) : sProp 𝕄) := by
  unfold invs
  rw [bigSep_univ_at _ ck]
  iintro ⟨H, -⟩
  iexact H

/-- What device `c` owes, whatever it has waited for. -/
def Owe (c : Dev nD) (O : CellTallies nD τ sig Unit) : sProp 𝕄 := iprop(∃ W, owes (c : Thread nD τ) O W)

/-! ## Signals -/

def sigA (c i : Dev nD) : sProp 𝕄 := iprop(dutyTok ER (barC i) 0 c ∗ ∃ f : S16x2x512.Idx → F .f32, slotPts c i f)
def sigSt (c : Dev nD) (n : ℕ) : sProp 𝕄 := iprop(walk c n (sigA c) (fun _ => iprop(emp)) ∗ Owe c (rcvO c 0 + barO c n))

theorem step_sig (c i : Dev nD) {P : Prop} {dP : Decidable P} (hP : P ↔ c ≠ i) {dst : P → Dev nD} (hd : ∀ h, dst h = i)
    {n n' : ℕ} (hn : n = i.val) (hn' : n' = i.val + 1) {sm : Sem sig} (hsm : sm = barS)
    {α : Type} {Kp : PR F α} {Q : α → sProp 𝕄} {X : sProp 𝕄} (hk : iprop(invs st K ∗ X ∗ sigSt c n') ⊢ WP c Kp Q) :
    iprop(invs st K ∗ X ∗ sigSt c n)
      ⊢ WP c (dite P (fun h => (semSignalWord (dst h) sm 1#32) >>= fun _ => Kp) (fun _ => Kp)) Q := by
  subst hn hn' hsm
  by_cases h : P
  · rw [dif_pos h, hd h]
    have hne : i ≠ c := fun e => hP.mp h e.symm
    unfold sigSt Owe at hk ⊢
    iintro ⟨#HI, HX, Hw, %W, HO⟩
    ihave Hw' := (walk_step c i hne _ _) $$ Hw
    unfold sigA
    icases Hw' with ⟨⟨Ht, ⟨%f, Hs⟩⟩, Hw⟩
    ihave #Hc := (invs_at st K (i, none)) $$ HI
    icases Hc with ⟨#Hc1, #Hc2⟩
    rw [barO_step c i hne, ← add_assoc]
    iapply (Rounds.wp_signal 𝒱₀ ER (exRd st) (c : Thread nD τ) none (dst := (i : Thread nD τ)) (κ := K (i, none))
      (d := c) (mem_bar st i c hne) ((amount_bar st i c).trans (by decide)) () (rcvO c 0 + barO c (i.val + 1)) rfl) $$ [HO Ht Hs]
    · isplitr; · iexact Hc1
      isplitl [HO]; · iexact HO
      isplitl [Ht]; · iexact Ht
      isplitl [Hs]
      · iapply (Entails.of_eq (payload_bar st i c).symm)
        unfold barPay
        iexists f; iexact Hs
      · iexact Hc2
    iintro HO
    iapply hk
    isplitr; · iexact HI
    isplitl [HX]; · iexact HX
    isplitl [Hw]
    · iapply Hw; iempintro
    · iexists W; iexact HO
  · rw [dif_neg h]
    have he : i = c := by by_contra hne; exact h (hP.mpr fun e => hne e.symm)
    unfold sigSt at hk ⊢
    rw [walk_skip c i he, barO_skip c i he] at hk
    exact hk

/-! ## Returning, and composing -/

theorem WP_pure (c : Dev nD) {α : Type} {a : α} {Q : α → sProp 𝕄} {X : sProp 𝕄} (h : X ⊢ Q a) : X ⊢ WP c (pure a : PR F α) Q := by
  unfold WP; rw [wp_pure]
  refine h.trans ?_
  iintro H; imodintro; iexact H

theorem WP_bind (c : Dev nD) {α β : Type} {p : PR F α} {k : α → PR F β} {Q : β → sProp 𝕄} {X : sProp 𝕄}
    (h : X ⊢ WP c p (fun a => WP c (k a) Q)) : X ⊢ WP c (p >>= k) Q := by
  unfold WP at h ⊢; rw [wp_bind]; exact h

/-! ## Sends -/

/-- A device's number, put together from its three coordinates. -/
theorem me_val (c : Dev nD) : 8 * (c.val / 8) + 4 * ((c.val / 4) % 2) + (c.val % 4) = c.val := by omega

theorem slot_of_off {i : Dev nD} {off : Fin 3 → ℕ} (h : off = ![i.val, 0, 0]) (inb : ∀ a, off a + S1x2x512.size a ≤ S16x2x512.size a) :
    (gM.slice (Rect.unit (s := S16x2x512) off S1x2x512.size inb) (fun _ => rfl)).squeeze S2x512 squeezes_S1x2x512_S2x512 = slotM i := by
  subst h; rfl

theorem rcv_of_off {i : Dev nD} {off : Fin 1 → ℕ} (h : off = ![i.val]) (inb : ∀ a, off a + S1.size a ≤ S16.size a) :
    ((cc0_scratch6.slice (Rect.unit (s := S16) off S1.size inb)).squeeze S_ squeezes_S1_S_).sem = rcvS i := by
  subst h; rfl

set_option maxHeartbeats 2000000 in
/-- The copy of device `c`'s rows into slot `c` of device `i`. -/
theorem wp_send_slot (c i : Dev nD) (hne : i ≠ c) (n : Dev nD) (hn : n = i) (M : Memref sig .tc .vmem S2x512 .f32) (hM : M = slotM c)
    (sS rS : DmaSem sig) (hS : sS = sndS i) (hR : rS = rcvS c)
    {hsc : (M : Memref sig (Dev.tc n : Thread nD τ).2.kind .vmem S2x512 .f32).view.ref.isScScratch = false}
    {hsrc : sM.view.WordExact} {hdst : M.view.WordExact}
    {hsem : DmaTarget.Typed .vmem (.dma rS) (.remote (Dev.tc n : Thread nD τ) (M : Memref sig (Dev.tc n : Thread nD τ).2.kind .vmem S2x512 .f32) (.dma sS) hsc)}
    {α : Type} {Q : α → sProp 𝕄} {k : PUnit → PR F α} (f : S16x2x512.Idx → F .f32) (W : Waits sig Unit) :
    iprop(cellInv ER (exRd st) (K (c, some (false, i))) (sndC c i) ∗ cellInv ER (exRd st) (K (i, some (true, c))) (rcvC i c)
        ∗ rowsPts c (lent i) (st c) ∗ slotPts i c f
        ∗ owes (c : Thread nD τ) (rcvO c i.val) W
        ∗ dutyTok ER (sndC c i) 0 i ∗ reached ER (sndC c i) 0
        ∗ dutyTok ER (rcvC i c) 0 c ∗ reached ER (rcvC i c) 0)
      ⊢ iprop(((cred (tallyAt (sndC c i) () N) ∗ owes (c : Thread nD τ) (rcvO c (i.val + 1)) W) -∗ WP c (k ⟨⟩) Q)
          -∗ WP c (.op (.enqueueDma sM (.remote (Dev.tc n : Thread nD τ) M (.dma sS) hsc) (.dma rS) hsrc hdst hsem) k) Q) := by
  subst hn hM hS hR
  have h1 : iprop(sM.view.loc (c : Thread nD τ) ↦[sM.view.set]{lent n} (st c : Buf (Elt F) (sM.view.loc (c : Thread nD τ)))) ⊢ (exRd (F := F) st).payload (sndC c n) 0 n := by
    rw [payload_snd]; unfold rowsPts; exact BI.Entails.refl _
  have h2 : iprop((slotM c).view.loc (n : Thread nD τ) ↦[(slotM c).view.set]{fullShare} ((slotM c).view.write (Elt F) f (sM.view.read (Elt F) (st c)) Finset.univ))
     ⊢ (exRd (F := F) st).payload (rcvC n c) 0 c := by
    rw [payload_rcv]; exact Entails.of_eq (slot_write n c f st)
  have h3 : (slotM c).view.amount (.dma (rcvS c)) = N := rfl
  unfold rowsPts slotPts
  refine Rounds.wp_send_pointsTo 𝒱₀ ER (exRd st) (c : Thread nD τ) none (κ₁ := K (c, some (false, n))) (κ₂ := K (n, some (true, c)))
    (c' := (n : Thread nD τ)) (src := sM) (dst := slotM c) (sS := .dma (sndS n)) (sem := .dma (rcvS c)) (hsc := hsc) (hsrc := hsrc) (hdst := hdst) (hsem := hsem) (k := k) (Q := Q) (defs := defs₀ (F := F)) (q := lent n) (fs := st c)
    (r₁ := 0) (r₂ := 0) (d₁ := n) (d₂ := c) (fd := f)
    (mem_snd st c n hne) (mem_rcv st n c hne.symm)
    () () N h3 (amount_snd st c n n) (amount_rcv st n c c) (rcvO c (n.val + 1)) (rcvO_step c n hne) (W := W) h1 h2

def sendA (c i : Dev nD) : sProp 𝕄 :=
  iprop((∃ f : S16x2x512.Idx → F .f32, slotPts i c f) ∗ rowsPts c (lent i) (st c) ∗ dutyTok ER (sndC c i) 0 i ∗ dutyTok ER (rcvC i c) 0 c)
def sendB (c i : Dev nD) : sProp 𝕄 := cred (tallyAt (sndC c i) () N)
def sendSt (c : Dev nD) (n : ℕ) : sProp 𝕄 := iprop(walk c n (sendA st c) (sendB c) ∗ Owe c (rcvO c n))

theorem step_send (c i : Dev nD) {P : Prop} {dP : Decidable P} (hP : P ↔ c ≠ i) {dst : P → Dev nD} (hd : ∀ h, dst h = i)
    {M : P → Memref sig .tc .vmem S2x512 .f32} (hM : ∀ h, M h = slotM c) {sS rS : P → DmaSem sig} (hS : ∀ h, sS h = sndS i) (hR : ∀ h, rS h = rcvS c)
    {n n' : ℕ} (hn : n = i.val) (hn' : n' = i.val + 1)
    {hsc : ∀ h, (M h : Memref sig (Dev.tc (dst h) : Thread nD τ).2.kind .vmem S2x512 .f32).view.ref.isScScratch = false}
    {hsrc : P → sM.view.WordExact} {hdst : ∀ h, (M h).view.WordExact}
    {hsem : ∀ h, DmaTarget.Typed .vmem (.dma (rS h)) (.remote (Dev.tc (dst h) : Thread nD τ) (M h : Memref sig (Dev.tc (dst h) : Thread nD τ).2.kind .vmem S2x512 .f32) (.dma (sS h)) (hsc h))}
    {α : Type} {Kp : PR F α} {Q : α → sProp 𝕄} {X : sProp 𝕄} (hk : iprop(invs st K ∗ X ∗ sendSt st c n') ⊢ WP c Kp Q) :
    iprop(invs st K ∗ X ∗ sendSt st c n)
      ⊢ WP c (dite P (fun h => (Prog.lift (.enqueueDma sM (.remote (Dev.tc (dst h) : Thread nD τ) (M h) (.dma (sS h)) (hsc h)) (.dma (rS h)) (hsrc h) (hdst h) (hsem h))) >>= fun _ => Kp)
          (fun _ => Kp)) Q := by
  subst hn hn'
  by_cases h : P
  · rw [dif_pos h]
    have hne : i ≠ c := fun e => hP.mp h e.symm
    unfold sendSt Owe at hk ⊢
    iintro ⟨#HI, HX, Hw, %W, HO⟩
    ihave Hw' := (walk_step c i hne _ _) $$ Hw
    icases Hw' with ⟨Ha, Hw⟩
    unfold sendA
    icases Ha with ⟨⟨%f, Hs⟩, Hr, Ht1, Ht2⟩
    ihave #Hc := (invs_at st K (c, some (false, i))) $$ HI
    icases Hc with ⟨#Hc1, #Hc2⟩
    ihave #Hd := (invs_at st K (i, some (true, c))) $$ HI
    icases Hd with ⟨#Hd1, #Hd2⟩
    iapply (wp_send_slot st K c i hne (dst h) (hd h) (M h) (hM h) (sS h) (rS h) (hS h) (hR h) f W) $$ [Hs Hr Ht1 Ht2 HO]
    · isplitr; · iexact Hc1
      isplitr; · iexact Hd1
      isplitl [Hr]; · iexact Hr
      isplitl [Hs]; · iexact Hs
      isplitl [HO]; · iexact HO
      isplitl [Ht1]; · iexact Ht1
      isplitr; · iexact Hc2
      isplitl [Ht2]; · iexact Ht2
      iexact Hd2
    iintro ⟨Hcr, HO⟩
    iapply hk
    isplitr; · iexact HI
    isplitl [HX]; · iexact HX
    isplitl [Hw Hcr]
    · iapply Hw; unfold sendB; iexact Hcr
    · iexists W; iexact HO
  · rw [dif_neg h]
    have he : i = c := by by_contra hne; exact h (hP.mpr fun e => hne e.symm)
    unfold sendSt at hk ⊢
    rw [walk_skip c i he, rcvO_skip c i he] at hk
    exact hk

/-! ## Waits for what is received, and for what has been sent -/

def recvA (c j : Dev nD) : sProp 𝕄 := iprop(cred (tallyAt (rcvC c j) () N) ∗ atPos ER (rcvC c j) 0 ∅ 0)
def recvB (c j : Dev nD) : sProp 𝕄 := iprop(slotPts c j (gat st) ∗ semVal (rcvC c j) 0)
def recvSt (c : Dev nD) (n : ℕ) : sProp 𝕄 := iprop(walk c n (recvA c) (recvB st c) ∗ Owe c 0)

theorem step_recv (c i : Dev nD) {P : Prop} {dP : Decidable P} (hP : P ↔ c ≠ i)
    {M : P → Memref sig .tc .vmem S2x512 .f32} (hM : ∀ h, M h = slotM i) {rS : P → DmaSem sig} (hR : ∀ h, rS h = rcvS i)
    {n n' : ℕ} (hn : n = i.val) (hn' : n' = i.val + 1)
    {hsrc : P → sM.view.WordExact} {hdst : ∀ h, (M h).view.WordExact}
    {α : Type} {Kp : PR F α} {Q : α → sProp 𝕄} {X : sProp 𝕄} (hk : iprop(invs st K ∗ X ∗ recvSt st c n') ⊢ WP c Kp Q) :
    iprop(invs st K ∗ X ∗ recvSt st c n)
      ⊢ WP c (dite P (fun h => (Prog.lift (.waitDma2 (rS h) sM (M h) (hsrc h) (hdst h))) >>= fun _ => Kp) (fun _ => Kp)) Q := by
  subst hn hn'
  by_cases h : P
  · rw [dif_pos h]
    have hne : i ≠ c := fun e => hP.mp h e.symm
    obtain rfl : M = fun _ => slotM i := funext hM
    obtain rfl : rS = fun _ => rcvS i := funext hR
    unfold recvSt Owe at hk ⊢
    iintro ⟨#HI, HX, Hw, %W, HO⟩
    ihave Hw' := (walk_step c i hne _ _) $$ Hw
    icases Hw' with ⟨Ha, Hw⟩
    unfold recvA
    icases Ha with ⟨Hcr, Hat⟩
    ihave #Hc := (invs_at st K (c, some (true, i))) $$ HI
    icases Hc with ⟨#Hc1, #Hc2⟩
    iapply (Rounds.wp_wait_rest_token 𝒱₀ ER (exRd st) (c : Thread nD τ) none (κ := K (c, some (true, i)))
      (wpE_waitDma2_eq 𝒱₀ (c : Thread nD τ) none Set.univ) (Set.mem_univ _) () (O := 0) (W := W) (R := 0) (m := 0) (T := ∅)
      (by rw [Nat.zero_add]; exact (expect_rcv st c i hne).symm)) $$ [Hcr HO Hat]
    · isplitr; · iexact Hc1
      isplitl [Hcr]; · iexact Hcr
      isplitl [HO]; · iexact HO
      isplitr; · rw [MayWait_zero]; iempintro
      iexact Hat
    iintro ⟨HO, Hat, -, Hpay⟩
    ihave Hs := (Entails.of_eq (rest_rcv st c i hne)) $$ Hpay
    imod (Rounds.cell_close ER (exRd st) (Set.mem_univ (K (c, some (true, i)))) (fun h => h) (R := 0 + 1) (duties_later st (rcvC c i))) $$ [Hat] with Hz
    · isplitr; · iexact Hc1
      iexact Hat
    iapply hk
    isplitr; · iexact HI
    isplitl [HX]; · iexact HX
    isplitl [Hw Hs Hz]
    · iapply Hw; unfold recvB; isplitl [Hs]; · iexact Hs
      iexact Hz
    · iexists _; iexact HO
  · rw [dif_neg h]
    have he : i = c := by by_contra hne; exact h (hP.mpr fun e => hne e.symm)
    unfold recvSt at hk ⊢
    rw [walk_skip c i he] at hk
    exact hk

def sentA (c i : Dev nD) : sProp 𝕄 := iprop(cred (tallyAt (sndC c i) () N) ∗ atPos ER (sndC c i) 0 ∅ 0)
def sentB (c i : Dev nD) : sProp 𝕄 := iprop(rowsPts c (lent i) (st c) ∗ semVal (sndC c i) 0)
def sentSt (c : Dev nD) (n : ℕ) : sProp 𝕄 := iprop(walk c n (sentA c) (sentB st c) ∗ Owe c 0)

theorem step_sent (c i : Dev nD) {P : Prop} {dP : Decidable P} (hP : P ↔ c ≠ i)
    {M : P → Memref sig .tc .vmem S2x512 .f32} {sS : P → DmaSem sig} (hS : ∀ h, sS h = sndS i)
    {n n' : ℕ} (hn : n = i.val) (hn' : n' = i.val + 1)
    {hsrc : ∀ h, (M h).view.WordExact} {hdst : P → sM.view.WordExact}
    {α : Type} {Kp : PR F α} {Q : α → sProp 𝕄} {X : sProp 𝕄} (hk : iprop(invs st K ∗ X ∗ sentSt st c n') ⊢ WP c Kp Q) :
    iprop(invs st K ∗ X ∗ sentSt st c n)
      ⊢ WP c (dite P (fun h => (Prog.lift (.waitDma2 (sS h) (M h) sM (hsrc h) (hdst h))) >>= fun _ => Kp) (fun _ => Kp)) Q := by
  subst hn hn'
  by_cases h : P
  · rw [dif_pos h]
    have hne : i ≠ c := fun e => hP.mp h e.symm
    obtain rfl : sS = fun _ => sndS i := funext hS
    unfold sentSt Owe at hk ⊢
    iintro ⟨#HI, HX, Hw, %W, HO⟩
    ihave Hw' := (walk_step c i hne _ _) $$ Hw
    icases Hw' with ⟨Ha, Hw⟩
    unfold sentA
    icases Ha with ⟨Hcr, Hat⟩
    ihave #Hc := (invs_at st K (c, some (false, i))) $$ HI
    icases Hc with ⟨#Hc1, #Hc2⟩
    iapply (Rounds.wp_wait_rest_token 𝒱₀ ER (exRd st) (c : Thread nD τ) none (κ := K (c, some (false, i)))
      (wpE_waitDma2_eq 𝒱₀ (c : Thread nD τ) none Set.univ) (Set.mem_univ _) () (O := 0) (W := W) (R := 0) (m := 0) (T := ∅)
      (by rw [Nat.zero_add]; exact (expect_snd st c i hne).symm)) $$ [Hcr HO Hat]
    · isplitr; · iexact Hc1
      isplitl [Hcr]; · iexact Hcr
      isplitl [HO]; · iexact HO
      isplitr; · rw [MayWait_zero]; iempintro
      iexact Hat
    iintro ⟨HO, Hat, -, Hpay⟩
    ihave Hs := (Entails.of_eq (rest_snd st c i hne)) $$ Hpay
    imod (Rounds.cell_close ER (exRd st) (Set.mem_univ (K (c, some (false, i)))) (fun h => h) (R := 0 + 1) (duties_later st (sndC c i))) $$ [Hat] with Hz
    · isplitr; · iexact Hc1
      iexact Hat
    iapply hk
    isplitr; · iexact HI
    isplitl [HX]; · iexact HX
    isplitl [Hw Hs Hz]
    · iapply Hw; unfold sentB; isplitl [Hs]; · iexact Hs
      iexact Hz
    · iexists _; iexact HO
  · rw [dif_neg h]
    have he : i = c := by by_contra hne; exact h (hP.mpr fun e => hne e.symm)
    unfold sentSt at hk ⊢
    rw [walk_skip c i he] at hk
    exact hk

/-! ## The wait on the barrier -/

def barA (c : Dev nD) : sProp 𝕄 := iprop(levAts L lv ∗ cred (tallyAt (barC c) () 15) ∗ atPos ER (barC c) 0 ∅ 0 ∗ Owe c (rcvO c 0))
def barB (c : Dev nD) : sProp 𝕄 := iprop((bigSep (Finset.univ.erase c) fun j => barPay (F := F) c j) ∗ semVal (barC c) 0 ∗ Owe c (rcvO c 0))

theorem step_bar (c : Dev nD) {sm : Sem sig} (hsm : sm = barS)
    {α : Type} {k : PUnit → PR F α} {Q : α → sProp 𝕄} {X : sProp 𝕄} (hk : iprop(invs st K ∗ X ∗ barB c) ⊢ WP c (k ⟨⟩) Q) :
    iprop(invs st K ∗ X ∗ barA c) ⊢ WP c (semWaitWord sm 15#32 >>= k) Q := by
  subst hsm
  unfold barA barB Owe at *
  iintro ⟨#HI, HX, #Hlev, Hcr, Hat, %W, HO⟩
  ihave #Hc := (invs_at st K (c, none)) $$ HI
  icases Hc with ⟨#Hc1, #Hc2⟩
  iapply (Rounds.wp_wait_rest_token 𝒱₀ ER (exRd st) (c : Thread nD τ) none (κ := K (c, none))
    (wpE_semWait_eq 𝒱₀ (c : Thread nD τ) none Set.univ) (Set.mem_univ _) () (O := rcvO c 0) (W := W) (R := 0) (m := 0) (T := ∅)
    (by rw [Nat.zero_add]; exact (expect_bar st c).symm)) $$ [Hcr HO Hat]
  · isplitr; · iexact Hc1
    isplitl [Hcr]; · iexact Hcr
    isplitl [HO]; · iexact HO
    isplitr; · iapply (mayWait_bar c 0); iexact Hlev
    iexact Hat
  iintro ⟨HO, Hat, -, Hpay⟩
  ihave Hs := (Entails.of_eq (rest_bar st c)) $$ Hpay
  imod (Rounds.cell_close ER (exRd st) (Set.mem_univ (K (c, none))) (fun h => h) (R := 0 + 1) (duties_later st (barC c))) $$ [Hat] with Hz
  · isplitr; · iexact Hc1
    iexact Hat
  iapply hk
  isplitr; · iexact HI
  isplitl [HX]; · iexact HX
  isplitl [Hs]; · iexact Hs
  isplitl [Hz]; · iexact Hz
  iexists _; iexact HO

end Cert.Exchange

end
-- ==== Proof.Local.lean ====
/-
# What a device does by itself

The three copies that bring a device's activations and its two slices of the weights into its own memory, the loads, the
two rows of partial sums it computes from them, and the stores of those rows: into its row buffer, into its own slot of
the gather buffer, and at the end into the result.
-/
module

public import proofs.«01_k».proof.Proof.Steps
public import Idealize.ShloMosaic.Lib.ValueLayoutCasts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The memory operations, each followed by any rest of the program -/

theorem op_load (c : Dev nD) {cs : CoreSpace} {s : Shape} {e : EltTy} {m : Memref sig .tc cs s e} {r : LoadRect s} {l : m.view.LoadsAt r}
    {α : Type} {k : (r.shape.Idx → Elt F e) → PR F α} {Q : α → sProp 𝕄}
    {S : Finset (Idx (m.view.loc (c : Thread nD τ)))} {q : PosShare TreeShare} {f : Buf (Elt F) (m.view.loc (c : Thread nD τ))}
    (hS : m.view.setOn r.set ⊆ S) :
    (m.view.loc (c : Thread nD τ) ↦[S]{q} f : sProp 𝕄)
      ⊢ iprop(((m.view.loc (c : Thread nD τ) ↦[S]{q} f) -∗ WP c (k (m.view.readAt (Elt F) r f)) Q) -∗ WP c (Prog.lift (.load m r l) >>= k) Q) :=
  wp_load 𝒱₀ (c : Thread nD τ) none Set.univ hS

theorem op_store (c : Dev nD) {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {α : Type} {k : PUnit → PR F α} {Q : α → sProp 𝕄}
    {S : Finset (Idx ((m.access r).loc (c : Thread nD τ)))} {f : Buf (Elt F) ((m.access r).loc (c : Thread nD τ))}
    (hS : (m.access r).setOn Finset.univ ⊆ S) :
    ((m.access r).loc (c : Thread nD τ) ↦[S]{fullShare} f : sProp 𝕄)
      ⊢ iprop((((m.access r).loc (c : Thread nD τ) ↦[S]{fullShare} ((m.access r).write (Elt F) f w Finset.univ)) -∗ WP c (k ⟨⟩) Q)
          -∗ WP c (Prog.lift (.store m r w Finset.univ hx hm) >>= k) Q) :=
  wp_store 𝒱₀ (c : Thread nD τ) none Set.univ hS

/-- A whole write at an element the view reaches. -/
theorem write_at {κ : Kind} {cs : CoreSpace} {s : Shape} {e : EltTy} (v : View sig κ cs s e) (f : v.ty.Contents (Elt F)) (w : s.Idx → Elt F e)
    (z : v.ty.Idx) (x : s.Idx) (hz : v.emb x = z) : v.write (Elt F) f w Finset.univ z = cast (congrArg (Elt F) v.elt_eq.symm) (w x) := by
  subst hz
  exact View.write_emb_of_mem _ _ (Finset.mem_univ _)

/-- A whole write at an element the view does not reach. -/
theorem write_off {κ : Kind} {cs : CoreSpace} {s : Shape} {e : EltTy} (v : View sig κ cs s e) (f : v.ty.Contents (Elt F)) (w : s.Idx → Elt F e)
    (z : v.ty.Idx) (hz : ∀ x, v.emb x ≠ z) : v.write (Elt F) f w Finset.univ z = f z :=
  View.write_of_not_mem _ _ _ fun h => by
    obtain ⟨x, -, hx⟩ := Finset.mem_map.mp h
    exact hz x hx

/-! ## The own slot of the gather buffer -/

/-- An index of one row of one slot, inside the gather buffer. -/
theorem row_emb (i : Dev nD) (a : Fin 2) {o : Fin 3 → ℕ} (ho : o = ![i.val, a.val, 0]) (inb : ∀ a, o a + S1x1x512.size a ≤ S16x2x512.size a)
    (y : S1x1x512.Idx) :
    (gM.access (Rect.unit (s := S16x2x512) o S1x1x512.size inb)).emb y = ix3 (i : Fin 16) a (y 2 : Fin 512) := by
  subst ho
  have h0 : (y 0).val = 0 := Nat.lt_one_iff.mp (y 0).isLt
  have h1 : (y 1).val = 0 := Nat.lt_one_iff.mp (y 1).isLt
  funext d
  apply Fin.ext
  fin_cases d
  · show i.val + 1 * (y 0).val = i.val
    omega
  · show a.val + 1 * (y 1).val = a.val
    omega
  · show 0 + 1 * (y 2).val = (y 2).val
    omega

theorem row_subset (i : Dev nD) (a : Fin 2) {o : Fin 3 → ℕ} (ho : o = ![i.val, a.val, 0]) (inb : ∀ a, o a + S1x1x512.size a ≤ S16x2x512.size a) :
    (gM.access (Rect.unit (s := S16x2x512) o S1x1x512.size inb)).set ⊆ (slotM i).view.set := by
  intro x hx
  obtain ⟨y, -, rfl⟩ := Finset.mem_map.mp hx
  exact (mem_slot i _).mpr (congrArg (fun z : S16x2x512.Idx => (z 0).val) (row_emb i a ho inb y))

/-- A store into row `a` of slot `i`, read back in that row. -/
theorem row_write_at (i : Dev nD) (a : Fin 2) {o : Fin 3 → ℕ} (ho : o = ![i.val, a.val, 0]) (inb : ∀ a, o a + S1x1x512.size a ≤ S16x2x512.size a)
    (f : S16x2x512.Idx → F .f32) (w : S1x1x512.Idx → F .f32) (b : Fin 512) :
    ((gM.access (Rect.unit (s := S16x2x512) o S1x1x512.size inb)).write (Elt F) f w Finset.univ : S16x2x512.Idx → F .f32) (ix3 (i : Fin 16) a b)
      = w (ix3 (0 : Fin 1) (0 : Fin 1) b) :=
  write_at (gM.access (Rect.unit (s := S16x2x512) o S1x1x512.size inb)) f w (ix3 (i : Fin 16) a b) (ix3 (0 : Fin 1) (0 : Fin 1) b)
    (row_emb i a ho inb (ix3 (0 : Fin 1) (0 : Fin 1) b))

/-- A store into row `a` of slot `i`, read back in the other row. -/
theorem row_write_off (i : Dev nD) (a a' : Fin 2) (h : a.val ≠ a'.val) {o : Fin 3 → ℕ} (ho : o = ![i.val, a.val, 0]) (inb : ∀ a, o a + S1x1x512.size a ≤ S16x2x512.size a)
    (f : S16x2x512.Idx → F .f32) (w : S1x1x512.Idx → F .f32) (b : Fin 512) :
    ((gM.access (Rect.unit (s := S16x2x512) o S1x1x512.size inb)).write (Elt F) f w Finset.univ : S16x2x512.Idx → F .f32) (ix3 (i : Fin 16) a' b)
      = f (ix3 (i : Fin 16) a' b) :=
  write_off (gM.access (Rect.unit (s := S16x2x512) o S1x1x512.size inb)) f w (ix3 (i : Fin 16) a' b)
    fun x hx => h (congrArg (fun z : S16x2x512.Idx => (z 1).val) ((row_emb i a ho inb x).symm.trans hx))

/-- Both rows of a slot written. -/
theorem slot_rows (c i : Dev nD) {o0 o1 : Fin 3 → ℕ} (ho0 : o0 = ![i.val, 0, 0]) (ho1 : o1 = ![i.val, 1, 0])
    {b0 : ∀ a, o0 a + S1x1x512.size a ≤ S16x2x512.size a} {b1 : ∀ a, o1 a + S1x1x512.size a ≤ S16x2x512.size a}
    (f : S16x2x512.Idx → F .f32) (p0 p1 : S1x1x512.Idx → F .f32) (st : Dev nD → S2x512.Idx → F .f32)
    (hp0 : ∀ b : Fin 512, p0 (ix3 (0 : Fin 1) (0 : Fin 1) b) = st i (ix2 (0 : Fin 2) b))
    (hp1 : ∀ b : Fin 512, p1 (ix3 (0 : Fin 1) (0 : Fin 1) b) = st i (ix2 (1 : Fin 2) b)) :
    slotPts c i ((gM.access (Rect.unit (s := S16x2x512) o1 S1x1x512.size b1)).write (Elt F)
        ((gM.access (Rect.unit (s := S16x2x512) o0 S1x1x512.size b0)).write (Elt F) f p0 Finset.univ) p1 Finset.univ)
      = slotPts (F := F) c i (gat st) := by
  refine slotPts_congr c i _ _ fun a b => ?_
  revert a
  rw [Fin.forall_fin_two]
  constructor
  · exact (row_write_off i 1 0 Nat.one_ne_zero ho1 b1 _ p1 b).trans ((row_write_at i 0 ho0 b0 f p0 b).trans (hp0 b))
  · exact (row_write_at i 1 ho1 b1 _ p1 b).trans (hp1 b)

variable (st : Dev nD → S2x512.Idx → F .f32) (K : Dev nD × CI → ℕ)

/-- The own slot after `n` devices of the walk that fills it. -/
def ownSt (c : Dev nD) (n : ℕ) : sProp 𝕄 :=
  if c.val < n then slotPts c c (gat st) else iprop(∃ f : S16x2x512.Idx → F .f32, slotPts c c f)

theorem step_own (c i : Dev nD) {P : Prop} {dP : Decidable P} (hP : P ↔ c = i) {o0 o1 : Fin 3 → ℕ}
    (ho0 : o0 = ![i.val, 0, 0]) (ho1 : o1 = ![i.val, 1, 0])
    {b0 b0' : ∀ a, o0 a + S1x1x512.size a ≤ S16x2x512.size a} {b1 b1' : ∀ a, o1 a + S1x1x512.size a ≤ S16x2x512.size a}
    {p0 p1 : S1x1x512.Idx → F .f32}
    (hp0 : ∀ b : Fin 512, p0 (ix3 (0 : Fin 1) (0 : Fin 1) b) = st c (ix2 (0 : Fin 2) b))
    (hp1 : ∀ b : Fin 512, p1 (ix3 (0 : Fin 1) (0 : Fin 1) b) = st c (ix2 (1 : Fin 2) b))
    {n n' : ℕ} (hn : n = i.val) (hn' : n' = i.val + 1)
    {l0 : P → gM.view.LoadsAt (Rect.unit (s := S16x2x512) o0 S1x1x512.size b0).toLoadRect} {l1 : P → gM.view.LoadsAt (Rect.unit (s := S16x2x512) o1 S1x1x512.size b1).toLoadRect}
    {s0 : P → (gM.access (Rect.unit (s := S16x2x512) o0 S1x1x512.size b0')).Stores Finset.univ}
    {s1 : P → (gM.access (Rect.unit (s := S16x2x512) o1 S1x1x512.size b1')).Stores Finset.univ}
    {m0 : P → (Finset.univ : Finset (Rect.unit (s := S16x2x512) o0 S1x1x512.size b0').shape.Idx) = Finset.univ ∨ ∀ a, (Rect.unit (s := S16x2x512) o0 S1x1x512.size b0').stride a = 1}
    {m1 : P → (Finset.univ : Finset (Rect.unit (s := S16x2x512) o1 S1x1x512.size b1').shape.Idx) = Finset.univ ∨ ∀ a, (Rect.unit (s := S16x2x512) o1 S1x1x512.size b1').stride a = 1}
    {α : Type} {Kp : PR F α} {Q : α → sProp 𝕄} {X : sProp 𝕄} (hk : iprop(invs st K ∗ X ∗ ownSt st c n') ⊢ WP c Kp Q) :
    iprop(invs st K ∗ X ∗ ownSt st c n)
      ⊢ WP c (dite P (fun h => (Prog.lift (.load gM (Rect.unit (s := S16x2x512) o0 S1x1x512.size b0).toLoadRect (l0 h))) >>= fun (_ : Vec F S1x1x512 .f32) =>
          (Prog.lift (.store gM (Rect.unit (s := S16x2x512) o0 S1x1x512.size b0') p0 Finset.univ (s0 h) (m0 h))) >>= fun _ =>
          (Prog.lift (.load gM (Rect.unit (s := S16x2x512) o1 S1x1x512.size b1).toLoadRect (l1 h))) >>= fun (_ : Vec F S1x1x512 .f32) =>
          (Prog.lift (.store gM (Rect.unit (s := S16x2x512) o1 S1x1x512.size b1') p1 Finset.univ (s1 h) (m1 h))) >>= fun _ => Kp) (fun _ => Kp)) Q := by
  subst hn hn'
  by_cases h : P
  · rw [dif_pos h]
    obtain rfl : c = i := hP.mp h
    unfold ownSt at hk ⊢
    rw [if_pos (Nat.lt_succ_self _)] at hk
    rw [if_neg (Nat.lt_irrefl _)]
    iintro ⟨HI, HX, %f, Hs⟩
    unfold slotPts
    iapply (op_load c (m := gM) (by have := row_subset c 0 ho0 b0; rwa [View.set_slice] at this)) $$ Hs; iintro Hs
    iapply (op_store c (m := gM) (r := Rect.unit (s := S16x2x512) o0 S1x1x512.size b0') (row_subset c 0 ho0 b0')) $$ Hs; iintro Hs
    iapply (op_load c (m := gM) (by have := row_subset c 1 ho1 b1; rwa [View.set_slice] at this)) $$ Hs; iintro Hs
    iapply (op_store c (m := gM) (r := Rect.unit (s := S16x2x512) o1 S1x1x512.size b1') (row_subset c 1 ho1 b1')) $$ Hs; iintro Hs
    iapply hk
    isplitl [HI]; · iexact HI
    isplitl [HX]; · iexact HX
    iapply (show ((gM.access (Rect.unit (s := S16x2x512) o1 S1x1x512.size b1')).loc (c : Thread nD τ) ↦[(slotM c).view.set]{fullShare}
        ((gM.access (Rect.unit (s := S16x2x512) o1 S1x1x512.size b1')).write (Elt F)
          ((gM.access (Rect.unit (s := S16x2x512) o0 S1x1x512.size b0')).write (Elt F) f p0 Finset.univ) p1 Finset.univ) : sProp 𝕄)
        ⊢ slotPts c c (gat st) from Entails.of_eq (slot_rows (b0 := b0') (b1 := b1') c c ho0 ho1 f p0 p1 st hp0 hp1)) $$ Hs
  · rw [dif_neg h]
    have he : ¬c.val = i.val := fun e => h (hP.mpr (Fin.ext e))
    unfold ownSt at hk ⊢
    by_cases hlt : c.val < i.val
    · rw [if_pos (Nat.lt_succ_of_lt hlt)] at hk
      rw [if_pos hlt]; exact hk
    · rw [if_neg (by omega)] at hk
      rw [if_neg hlt]; exact hk

/-! ## The row buffer -/

theorem rows_emb (a : Fin 2) {o : Fin 2 → ℕ} (ho : o = ![a.val, 0]) (inb : ∀ a, o a + S1x512.size a ≤ S2x512.size a) (y : S1x512.Idx) :
    (sM.access (Rect.unit (s := S2x512) o S1x512.size inb)).emb y = ix2 a (y 1 : Fin 512) := by
  subst ho
  have h0 : (y 0).val = 0 := Nat.lt_one_iff.mp (y 0).isLt
  funext d
  apply Fin.ext
  fin_cases d
  · show a.val + 1 * (y 0).val = a.val
    omega
  · show 0 + 1 * (y 1).val = (y 1).val
    omega

theorem rows_write_at (a : Fin 2) {o : Fin 2 → ℕ} (ho : o = ![a.val, 0]) (inb : ∀ a, o a + S1x512.size a ≤ S2x512.size a)
    (f : S2x512.Idx → F .f32) (w : S1x512.Idx → F .f32) (b : Fin 512) :
    ((sM.access (Rect.unit (s := S2x512) o S1x512.size inb)).write (Elt F) f w Finset.univ : S2x512.Idx → F .f32) (ix2 a b)
      = w (ix2 (0 : Fin 1) b) :=
  write_at (sM.access (Rect.unit (s := S2x512) o S1x512.size inb)) f w (ix2 a b) (ix2 (0 : Fin 1) b) (rows_emb a ho inb (ix2 (0 : Fin 1) b))

theorem rows_write_off (a a' : Fin 2) (h : a.val ≠ a'.val) {o : Fin 2 → ℕ} (ho : o = ![a.val, 0]) (inb : ∀ a, o a + S1x512.size a ≤ S2x512.size a)
    (f : S2x512.Idx → F .f32) (w : S1x512.Idx → F .f32) (b : Fin 512) :
    ((sM.access (Rect.unit (s := S2x512) o S1x512.size inb)).write (Elt F) f w Finset.univ : S2x512.Idx → F .f32) (ix2 a' b) = f (ix2 a' b) :=
  write_off (sM.access (Rect.unit (s := S2x512) o S1x512.size inb)) f w (ix2 a' b)
    fun x hx => h (congrArg (fun z : S2x512.Idx => (z 0).val) ((rows_emb a ho inb x).symm.trans hx))

theorem rows_write {o0 o1 : Fin 2 → ℕ} (ho0 : o0 = ![0, 0]) (ho1 : o1 = ![1, 0])
    {b0 : ∀ a, o0 a + S1x512.size a ≤ S2x512.size a} {b1 : ∀ a, o1 a + S1x512.size a ≤ S2x512.size a}
    (f : S2x512.Idx → F .f32) (p0 p1 : S1x512.Idx → F .f32) (g : S2x512.Idx → F .f32)
    (hp0 : ∀ b : Fin 512, p0 (ix2 (0 : Fin 1) b) = g (ix2 (0 : Fin 2) b))
    (hp1 : ∀ b : Fin 512, p1 (ix2 (0 : Fin 1) b) = g (ix2 (1 : Fin 2) b)) :
    (sM.access (Rect.unit (s := S2x512) o1 S1x512.size b1)).write (Elt F)
        ((sM.access (Rect.unit (s := S2x512) o0 S1x512.size b0)).write (Elt F) f p0 Finset.univ) p1 Finset.univ = g := by
  have key : ∀ (a : Fin 2) (b : Fin 512), (sM.access (Rect.unit (s := S2x512) o1 S1x512.size b1)).write (Elt F)
      ((sM.access (Rect.unit (s := S2x512) o0 S1x512.size b0)).write (Elt F) f p0 Finset.univ) p1 Finset.univ (ix2 a b) = g (ix2 a b) := by
    intro a b
    revert a
    rw [Fin.forall_fin_two]
    constructor
    · exact (rows_write_off 1 0 Nat.one_ne_zero ho1 b1 _ p1 b).trans ((rows_write_at 0 ho0 b0 f p0 b).trans (hp0 b))
    · exact (rows_write_at 1 ho1 b1 _ p1 b).trans (hp1 b)
  funext x
  exact (congrArg _ (eq_ix2 (n0 := 2) (n1 := 512) x)).trans ((key _ _).trans (congrArg g (eq_ix2 (n0 := 2) (n1 := 512) x).symm))

end Cert.Exchange

end
-- ==== Proof.Fetch.lean ====
/-
# Fetching a device's inputs and computing its two rows

A device starts three copies: its activations, and the two halves of the columns of the weights that it is responsible
for.  It signals the others meanwhile, and then waits for the copies and loads what they brought.
-/
module

public import proofs.«01_k».proof.Proof.Local

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Copies inside a device -/

theorem op_copy (c : Dev nD) {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (τ := τ) (p := .tc) sp sm (.here dst)}
    {α : Type} {k : PUnit → PR F α} {Q : α → sProp 𝕄} {q : PosShare TreeShare} {fs : Buf (Elt F) (src.view.loc (c : Thread nD τ))}
    {Sd : Finset (Idx (dst.view.loc (c : Thread nD τ)))} {fd : Buf (Elt F) (dst.view.loc (c : Thread nD τ))}
    (N : ℕ) (hN : dst.view.amount sm = N) (hN0 : 0 < N) (hSd : dst.view.set ⊆ Sd) :
    iprop((src.view.loc (c : Thread nD τ) ↦[src.view.set]{q} fs) ∗ (dst.view.loc (c : Thread nD τ) ↦[Sd]{fullShare} fd) ∗ semVal ((c : Thread nD τ), sm) 0)
      ⊢ iprop((Transfers.Flight EC (c : Thread nD τ) sm () N
          (iprop((dst.view.loc (c : Thread nD τ) ↦[Sd]{fullShare} (dst.view.write (Elt F) fd (src.view.read (Elt F) fs) Finset.univ))
            ∗ (src.view.loc (c : Thread nD τ) ↦[src.view.set]{q} fs)) : sProp 𝕄) -∗ WP c (k ⟨⟩) Q)
        -∗ WP c (Prog.lift (.enqueueDma src (.here dst) sm hsrc hdst hsem) >>= k) Q) :=
  Transfers.wp_dmaLocal (c := (c : Thread nD τ)) (src := src) (via := .same) (dst := dst) (sm := sm) (hsrc := hsrc) (hdst := hdst) (hsem := hsem)
    (k := k) (Q := Q) (q := q) (fs := fs) (Sd := Sd) (fd := fd) (defs := defs₀) EC 𝒱₀ none () N hN hN0 hSd

theorem op_fetched (c : Dev nD) {sp sp' : Space} {s s' : Shape} {e e' : EltTy} {srcw : Memref sig .tc sp' s' e'} {dstw : Memref sig .tc sp s e} {sem : DmaSem sig}
    {hsrc : srcw.view.WordExact} {hdst : dstw.view.WordExact}
    {α : Type} {k : PUnit → PR F α} {Q : α → sProp 𝕄} {D : sProp 𝕄} (N : ℕ) (hN : dstw.view.dmaCredit = N)
    (h0 : lvOf (cls (.dma sem)) = 0) (O : CellTallies nD τ sig Unit) (hO : O = O₀ c ∨ O = 0 ∨ ∃ n, O = rcvO c n) :
    iprop(Transfers.Flight EC (c : Thread nD τ) (.dma sem) () N D ∗ levAts L lv ∗ Owe c O)
      ⊢ iprop((iprop(D ∗ semVal ((c : Thread nD τ), .dma sem) 0 ∗ Owe c O) -∗ WP c (k ⟨⟩) Q)
        -∗ WP c (Prog.lift (.waitDma2 sem srcw dstw hsrc hdst) >>= k) Q) := by
  unfold Owe
  iintro ⟨HF, #Hlev, %W, HO⟩ Hk
  iapply (Transfers.wp_waitLocalO (c := (c : Thread nD τ)) (srcw := srcw) (dstw := dstw) (sem := sem) (hsrc := hsrc) (hdst := hdst)
    (k := k) (Q := Q) (D := D) (O := O) (W := W) (defs := defs₀) EC 𝒱₀ none () hN) $$ [HF HO]
  · isplitl [HF]; · iexact HF
    isplitl [HO]; · iexact HO
    iapply (mayWait_zero c (.dma sem) h0 O hO) $$ Hlev
  iintro ⟨HD, Hv, HO⟩
  iapply Hk
  isplitl [HD]; · iexact HD
  isplitl [Hv]; · iexact Hv
  iexists _; iexact HO

theorem op_device (c : Dev nD) {α : Type} {k : Dev nD → PR F α} {Q : α → sProp 𝕄} {X : sProp 𝕄} (h : X ⊢ WP c (k c) Q) :
    X ⊢ WP c (Prog.lift .deviceId >>= k) Q := by
  show _ ⊢ WP c (.op .deviceId k) Q
  refine h.trans (Entails.of_eq ?_)
  exact (wp_deviceId 𝒱₀ (c : Thread nD τ) none Set.univ).symm

/-! ## The pieces of the weights -/

abbrev srcW0 (c : Dev nD) : Memref sig .tc .hbm S1024x512 .f32 :=
  aW.slice (Rect.unit (s := S1024x8192) (k0_off1 c 0#32) S1024x512.size (k0_off1_inb c 0)) (fun _ => rfl)
abbrev srcW1 (c : Dev nD) : Memref sig .tc .hbm S1024x512 .f32 :=
  aW.slice (Rect.unit (s := S1024x8192) (k0_off1 c 512#32) S1024x512.size (k0_off1_inb c 1)) (fun _ => rfl)
abbrev dstW0 : Memref sig .tc .vmem S1024x512 .f32 :=
  wM.slice (Rect.unit (s := S1024x1024) ![0, 0] S1024x512.size inb_S1024x1024_S1024x512_0_0) (fun _ => rfl)
abbrev dstW1 : Memref sig .tc .vmem S1024x512 .f32 :=
  wM.slice (Rect.unit (s := S1024x1024) ![0, 512] S1024x512.size inb_S1024x1024_S1024x512_0_512) (fun _ => rfl)

abbrev locS0 : DmaSem sig := ((cc0_scratch4.slice (Rect.unit (s := S3) ![0] S1.size inb_S3_S1_0)).squeeze S_ squeezes_S1_S_).sem
abbrev locS1 : DmaSem sig := ((cc0_scratch4.slice (Rect.unit (s := S3) ![1] S1.size inb_S3_S1_1)).squeeze S_ squeezes_S1_S_).sem
abbrev locS2 : DmaSem sig := ((cc0_scratch4.slice (Rect.unit (s := S3) ![2] S1.size inb_S3_S1_2)).squeeze S_ squeezes_S1_S_).sem

theorem dst_disjoint : Disjoint (dstW1.view.set : Finset S1024x1024.Idx) dstW0.view.set := by
  rw [Finset.disjoint_left]
  intro x h1 h0
  obtain ⟨y, -, rfl⟩ := Finset.mem_map.mp h1
  obtain ⟨z, -, hz⟩ := Finset.mem_map.mp h0
  have hz' : 0 + 1 * (z 1).val = 512 + 1 * (y 1).val := congrArg (fun w : S1024x1024.Idx => (w 1).val) hz
  have hlt : (z 1).val < 512 := (z 1).isLt
  omega

theorem src_disjoint (c : Dev nD) : Disjoint ((srcW1 c).view.set : Finset S1024x8192.Idx) (srcW0 c).view.set := by
  rw [Finset.disjoint_left]
  intro x h1 h0
  obtain ⟨y, -, rfl⟩ := Finset.mem_map.mp h1
  obtain ⟨z, -, hz⟩ := Finset.mem_map.mp h0
  have hz' : (k0_off1 c 0#32) 1 + 1 * (z 1).val = (k0_off1 c 512#32) 1 + 1 * (y 1).val := congrArg (fun w : S1024x8192.Idx => (w 1).val) hz
  have e0 : (k0_off1 c 0#32) 1 = 4096 * (c.val / 8) + 1024 * (c.val % 4) + 512 * 0 := congrFun (k0_off1_eq c 0) 1
  have e1 : (k0_off1 c 512#32) 1 = 4096 * (c.val / 8) + 1024 * (c.val % 4) + 512 * 1 := congrFun (k0_off1_eq c 1) 1
  have hlt : (z 1).val < 512 := (z 1).isLt
  omega

/-! ## What a device computes -/

variable (X : Dev nD → Vec F S512x1024 .f32) (Wv : Dev nD → Vec F S1024x8192 .f32) (lab : Dev nD → Vec F S512 .i32)

/-- The device's second coordinate, its number, and its place among the devices of its half, as the kernel computes them. -/
def vY (c : Dev nD) : BitVec 32 := Scalar.remsi (Scalar.divsi (Dev.word c) 4#32) 2#32
def vX (c : Dev nD) : BitVec 32 := Scalar.remsi (Scalar.divsi (Dev.word c) 8#32) 2#32
def vZ (c : Dev nD) : BitVec 32 := Scalar.remsi (Scalar.divsi (Dev.word c) 1#32) 4#32
def vMe (c : Dev nD) : BitVec 32 := Scalar.addi (Scalar.addi (Scalar.muli (vX c) 8#32) (Scalar.muli (vY c) 4#32)) (vZ c)
def vCol (c : Dev nD) : BitVec 32 := Scalar.addi (Scalar.muli (vX c) 4#32) (vZ c)

def vIota : IVec S512x512 32 := iota .tc S512x512 32 [1] iota_S512x512_d1_w32
/-- The two pieces of the weights. -/
def w0 (c : Dev nD) : Vec F S1024x512 .f32 := (srcW0 c).view.read (Elt F) (Wv c)
def w1 (c : Dev nD) : Vec F S1024x512 .f32 := (srcW1 c).view.read (Elt F) (Wv c)
/-- The labels relative to the device's first column. -/
def v87 (c : Dev nD) : IVec S512x1 32 := k0_pay1 (vY c) (vCol c) (lab c)
def v111 (c : Dev nD) : FVec F S512 .f32 := k0_pay5 vIota (v87 lab c) (k0_pay3 (F := F)) (X c) (w0 Wv c)
def v120 (c : Dev nD) : FVec F S512x512 .f32 := k0_pay6 (X c) (w1 Wv c)
def v123 (c : Dev nD) : FVec F S512 .f32 := k0_pay7 (k0_pay2 (F := F)) (X c) (w0 Wv c) (X c) (w1 Wv c)
def v127 (c : Dev nD) : IVec S512x512 1 := k0_pay8 vIota (v87 lab c)
def v131 (c : Dev nD) : FVec F S512 .f32 := k0_pay9 (v111 X Wv lab c) (v120 X Wv c) (v127 lab c) (Scalar.ofBits .f32 0x00000000#32)

/-- The pair of rows: the sums of exponentials, and the sums of the logits under the labels. -/
def st (c : Dev nD) : S2x512.Idx → F .f32 :=
  fun i => if (i 0).val = 0 then v123 X Wv c (ix1 (i 1 : Fin 512)) else v131 X Wv lab c (ix1 (i 1 : Fin 512))

/-! ## The state of the copies -/

def argX (c : Dev nD) : sProp 𝕄 := ((c : Thread nD τ).loc main_arg0) ↦{fullShare} (X c : Buf (Elt F) ((c : Thread nD τ).loc main_arg0))
def argW (c : Dev nD) : sProp 𝕄 := ((c : Thread nD τ).loc main_arg1) ↦{fullShare} (Wv c : Buf (Elt F) ((c : Thread nD τ).loc main_arg1))
def anyX (c : Dev nD) : sProp 𝕄 := iprop(∃ f : Vec F S512x1024 .f32, ((c : Thread nD τ).loc cc0_scratch0) ↦{fullShare} (f : Buf (Elt F) ((c : Thread nD τ).loc cc0_scratch0)))
def anyW (c : Dev nD) : sProp 𝕄 := iprop(∃ f : Vec F S1024x1024 .f32, ((c : Thread nD τ).loc cc0_scratch1) ↦{fullShare} (f : Buf (Elt F) ((c : Thread nD τ).loc cc0_scratch1)))
def locSems (c : Dev nD) : sProp 𝕄 :=
  iprop(semVal ((c : Thread nD τ), .dma locS0) 0 ∗ semVal ((c : Thread nD τ), .dma locS1) 0 ∗ semVal ((c : Thread nD τ), .dma locS2) 0)

/-- Before the copies, and after them. -/
def idle (c : Dev nD) : sProp 𝕄 := iprop(argX X c ∗ argW Wv c ∗ anyX c ∗ anyW c ∗ locSems c)

abbrev NX : ℕ := xM.view.dmaCredit
abbrev NW0 : ℕ := dstW0.view.dmaCredit
abbrev NW1 : ℕ := dstW1.view.dmaCredit

def flyX (c : Dev nD) : sProp 𝕄 :=
  Transfers.Flight EC (c : Thread nD τ) (.dma locS2) () NX
    (iprop((xM.view.loc (c : Thread nD τ) ↦[Finset.univ]{fullShare} (X c : Buf (Elt F) (xM.view.loc (c : Thread nD τ)))) ∗ argX X c) : sProp 𝕄)

def srcPts (c : Dev nD) (S : Finset S1024x8192.Idx) : sProp 𝕄 :=
  ((c : Thread nD τ).loc main_arg1) ↦[(S : Finset (Idx ((c : Thread nD τ).loc main_arg1)))]{fullShare} (Wv c : Buf (Elt F) ((c : Thread nD τ).loc main_arg1))
def dstPts (c : Dev nD) (S : Finset S1024x1024.Idx) (f : Vec F S1024x1024 .f32) : sProp 𝕄 :=
  ((c : Thread nD τ).loc cc0_scratch1) ↦[(S : Finset (Idx ((c : Thread nD τ).loc cc0_scratch1)))]{fullShare} (f : Buf (Elt F) ((c : Thread nD τ).loc cc0_scratch1))

def flyW0 (c : Dev nD) (f : Vec F S1024x1024 .f32) : sProp 𝕄 :=
  Transfers.Flight EC (c : Thread nD τ) (.dma locS0) () NW0
    (iprop(dstPts c dstW0.view.set (dstW0.view.write (Elt F) f (w0 Wv c) Finset.univ) ∗ srcPts Wv c (srcW0 c).view.set) : sProp 𝕄)
def flyW1 (c : Dev nD) (f : Vec F S1024x1024 .f32) : sProp 𝕄 :=
  Transfers.Flight EC (c : Thread nD τ) (.dma locS1) () NW1
    (iprop(dstPts c (Finset.univ \ dstW0.view.set) (dstW1.view.write (Elt F) f (w1 Wv c) Finset.univ) ∗ srcPts Wv c (srcW1 c).view.set) : sProp 𝕄)
def restW (c : Dev nD) : sProp 𝕄 := srcPts Wv c ((Finset.univ \ (srcW0 c).view.set) \ (srcW1 c).view.set)

def flying (c : Dev nD) : sProp 𝕄 := iprop(flyX X c ∗ restW Wv c ∗ ∃ f : Vec F S1024x1024 .f32, flyW0 Wv c f ∗ flyW1 Wv c f)

theorem dst_split (c : Dev nD) (f : Vec F S1024x1024 .f32) :
    (((c : Thread nD τ).loc cc0_scratch1) ↦{fullShare} (f : Buf (Elt F) ((c : Thread nD τ).loc cc0_scratch1)) : sProp 𝕄)
      ⊢ iprop(dstPts c dstW0.view.set f ∗ dstPts c (Finset.univ \ dstW0.view.set) f) :=
  (pointsTo_split_subset (Finset.subset_univ _)).1

theorem dst_join (c : Dev nD) (f g : Vec F S1024x1024 .f32) :
    iprop(dstPts c dstW0.view.set f ∗ dstPts c (Finset.univ \ dstW0.view.set) g) ⊢ (anyW c : sProp 𝕄) := by
  unfold anyW dstPts
  iintro H
  iexists _
  iapply (pointsTo_join_subset (Finset.subset_univ _)) $$ H

theorem src_split (c : Dev nD) : (argW Wv c : sProp 𝕄) ⊣⊢ iprop(srcPts Wv c (srcW0 c).view.set ∗ srcPts Wv c (srcW1 c).view.set ∗ restW Wv c) := by
  unfold argW srcPts restW
  have h1 := pointsTo_split_subset (Ix := Unit) (Val := Elt F) (Name := ℕ) (U := UU) (Lvl := ℕ) (ℓ := (c : Thread nD τ).loc main_arg1) (q := fullShare)
    (f := (Wv c : Buf (Elt F) ((c : Thread nD τ).loc main_arg1))) (Finset.subset_univ ((srcW0 c).view.set))
  have h2 := pointsTo_split_subset (Ix := Unit) (Val := Elt F) (Name := ℕ) (U := UU) (Lvl := ℕ) (ℓ := (c : Thread nD τ).loc main_arg1) (q := fullShare)
    (f := (Wv c : Buf (Elt F) ((c : Thread nD τ).loc main_arg1))) (I := (srcW1 c).view.set) (S := Finset.univ \ (srcW0 c).view.set)
    (fun x hx => Finset.mem_sdiff.mpr ⟨Finset.mem_univ _, Finset.disjoint_left.mp (src_disjoint c) hx⟩)
  exact ⟨h1.1.trans (sep_mono_right h2.1), (sep_mono_right h2.2).trans h1.2⟩

theorem argX_eq (c : Dev nD) : argX X c
    = ((aX.view.loc (c : Thread nD τ)) ↦[aX.view.set]{fullShare} (X c : Buf (Elt F) (aX.view.loc (c : Thread nD τ))) : sProp 𝕄) := by
  unfold argX; rw [View.set_whole]

/-- What the copy of the activations delivers. -/
theorem flyX_eq (c : Dev nD) (f : Vec F S512x1024 .f32) :
    (iprop((xM.view.loc (c : Thread nD τ) ↦[Finset.univ]{fullShare} (xM.view.write (Elt F) f (aX.view.read (Elt F) (X c)) Finset.univ))
      ∗ (aX.view.loc (c : Thread nD τ) ↦[aX.view.set]{fullShare} (X c : Buf (Elt F) (aX.view.loc (c : Thread nD τ))))) : sProp 𝕄)
      = iprop((xM.view.loc (c : Thread nD τ) ↦[Finset.univ]{fullShare} (X c : Buf (Elt F) (xM.view.loc (c : Thread nD τ)))) ∗ argX X c) := by
  rw [argX_eq]
  congr 2
  rw [View.read_whole, View.write_whole_univ]

theorem part1_spec (c : Dev nD) {R : sProp 𝕄} {Q : _ → sProp 𝕄}
    (hk : iprop(R ∗ flying X Wv c) ⊢ Q ⟨c, vY c, vMe c, vCol c, SemArray.scalar (sig.barrier 0 rfl), Scalar.extui (Scalar.cmpi .ne (vMe c) 0#32), 0#32⟩) :
    iprop(R ∗ idle X Wv c) ⊢ WP c (k0_part1 aX (Memref.isWhole_whole _) aW (Memref.isWhole_whole _) lM (Memref.isWhole_whole _) oM (Memref.isWhole_whole _)
          xM (Memref.isWhole_whole _) wM (Memref.isWhole_whole _) sM (Memref.isWhole_whole _) gM (Memref.isWhole_whole _)
          cc0_scratch4 cc0_scratch5 cc0_scratch6) Q := by
  rw [k0_part1_eq_skeleton]
  unfold k0_part1_skel
  refine op_device c ?_
  unfold idle anyX anyW locSems
  iintro ⟨HR, HX, HW, ⟨%fx, Hx⟩, ⟨%fw, Hw⟩, Hs0, Hs1, Hs2⟩
  iapply (op_copy c (src := aX) (dst := xM) (sm := .dma locS2) (q := fullShare) (fs := X c) (Sd := Finset.univ) (fd := fx) NX rfl (by decide) (Finset.subset_univ _)) $$ [HX Hx Hs2]
  · ihave HX := (Entails.of_eq (argX_eq X c)) $$ HX
    isplitl [HX]; · iexact HX
    isplitl [Hx]; · iexact Hx
    iexact Hs2
  rw [flyX_eq]
  iintro Hf2
  ihave Hw := (dst_split c fw) $$ Hw
  icases Hw with ⟨Hw0, Hw1⟩
  ihave HW := (src_split Wv c).1 $$ HW
  icases HW with ⟨HW0, HW1, HWr⟩
  iapply (op_copy c (src := srcW0 c) (dst := dstW0) (sm := .dma locS0) (q := fullShare) (fs := Wv c) (Sd := dstW0.view.set) (fd := fw) NW0 rfl (by decide) (Finset.Subset.refl _)) $$ [HW0 Hw0 Hs0]
  · unfold srcPts dstPts
    isplitl [HW0]; · iexact HW0
    isplitl [Hw0]; · iexact Hw0
    iexact Hs0
  iintro Hf0
  iapply (op_copy c (src := srcW1 c) (dst := dstW1) (sm := .dma locS1) (q := fullShare) (fs := Wv c) (Sd := Finset.univ \ dstW0.view.set) (fd := fw) NW1 rfl (by decide)
    (fun x hx => Finset.mem_sdiff.mpr ⟨Finset.mem_univ _, Finset.disjoint_left.mp dst_disjoint hx⟩)) $$ [HW1 Hw1 Hs1]
  · unfold srcPts dstPts
    isplitl [HW1]; · iexact HW1
    isplitl [Hw1]; · iexact Hw1
    iexact Hs1
  iintro Hf1
  iapply (WP_pure c hk)
  isplitl [HR]; · iexact HR
  unfold flying flyX flyW0 flyW1 srcPts dstPts w0 w1
  isplitl [Hf2]; · iexact Hf2
  isplitl [HWr]; · iexact HWr
  iexists fw
  isplitl [Hf0]; · iexact Hf0
  iexact Hf1

end Cert.Exchange

end
-- ==== Proof.Walks.lean ====
/-
# The steps of the walks, by position

The same lemmas once more, now with the device given by its position in the walk, so that the steps of one walk are all
of one form.
-/
module

public import proofs.«01_k».proof.Proof.Local

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (st : Dev nD → S2x512.Idx → F .f32) (K : Dev nD × CI → ℕ)

theorem next_sig (c : Dev nD) {n : ℕ} (h16 : n < 16) {P : Prop} {dP : Decidable P} (hP : P ↔ c ≠ ⟨n, h16⟩) {dst : P → Dev nD} (hd : ∀ h, dst h = ⟨n, h16⟩)
    {sm : Sem sig} (hsm : sm = barS)
    {α : Type} {Kp : PR F α} {Q : α → sProp 𝕄} {X : sProp 𝕄} (hk : iprop(invs st K ∗ X ∗ sigSt c (n + 1)) ⊢ WP c Kp Q) :
    iprop(invs st K ∗ X ∗ sigSt c n)
      ⊢ WP c (dite P (fun h => (semSignalWord (dst h) sm 1#32) >>= fun _ => Kp) (fun _ => Kp)) Q :=
  step_sig st K c ⟨n, h16⟩ hP hd rfl rfl hsm hk

theorem next_own (c : Dev nD) {n : ℕ} (h16 : n < 16) {P : Prop} {dP : Decidable P} (hP : P ↔ c = ⟨n, h16⟩) {o0 o1 : Fin 3 → ℕ}
    (ho0 : o0 = ![n, 0, 0]) (ho1 : o1 = ![n, 1, 0])
    {b0 b0' : ∀ a, o0 a + S1x1x512.size a ≤ S16x2x512.size a} {b1 b1' : ∀ a, o1 a + S1x1x512.size a ≤ S16x2x512.size a}
    {p0 p1 : S1x1x512.Idx → F .f32}
    (hp0 : ∀ b : Fin 512, p0 (ix3 (0 : Fin 1) (0 : Fin 1) b) = st c (ix2 (0 : Fin 2) b))
    (hp1 : ∀ b : Fin 512, p1 (ix3 (0 : Fin 1) (0 : Fin 1) b) = st c (ix2 (1 : Fin 2) b))
    {l0 : P → gM.view.LoadsAt (Rect.unit (s := S16x2x512) o0 S1x1x512.size b0).toLoadRect} {l1 : P → gM.view.LoadsAt (Rect.unit (s := S16x2x512) o1 S1x1x512.size b1).toLoadRect}
    {s0 : P → (gM.access (Rect.unit (s := S16x2x512) o0 S1x1x512.size b0')).Stores Finset.univ}
    {s1 : P → (gM.access (Rect.unit (s := S16x2x512) o1 S1x1x512.size b1')).Stores Finset.univ}
    {m0 : P → (Finset.univ : Finset (Rect.unit (s := S16x2x512) o0 S1x1x512.size b0').shape.Idx) = Finset.univ ∨ ∀ a, (Rect.unit (s := S16x2x512) o0 S1x1x512.size b0').stride a = 1}
    {m1 : P → (Finset.univ : Finset (Rect.unit (s := S16x2x512) o1 S1x1x512.size b1').shape.Idx) = Finset.univ ∨ ∀ a, (Rect.unit (s := S16x2x512) o1 S1x1x512.size b1').stride a = 1}
    {α : Type} {Kp : PR F α} {Q : α → sProp 𝕄} {X : sProp 𝕄} (hk : iprop(invs st K ∗ X ∗ ownSt st c (n + 1)) ⊢ WP c Kp Q) :
    iprop(invs st K ∗ X ∗ ownSt st c n)
      ⊢ WP c (dite P (fun h => (Prog.lift (.load gM (Rect.unit (s := S16x2x512) o0 S1x1x512.size b0).toLoadRect (l0 h))) >>= fun (_ : Vec F S1x1x512 .f32) =>
          (Prog.lift (.store gM (Rect.unit (s := S16x2x512) o0 S1x1x512.size b0') p0 Finset.univ (s0 h) (m0 h))) >>= fun _ =>
          (Prog.lift (.load gM (Rect.unit (s := S16x2x512) o1 S1x1x512.size b1).toLoadRect (l1 h))) >>= fun (_ : Vec F S1x1x512 .f32) =>
          (Prog.lift (.store gM (Rect.unit (s := S16x2x512) o1 S1x1x512.size b1') p1 Finset.univ (s1 h) (m1 h))) >>= fun _ => Kp) (fun _ => Kp)) Q :=
  step_own st K c ⟨n, h16⟩ hP ho0 ho1 hp0 hp1 rfl rfl hk

theorem next_send (c : Dev nD) {n : ℕ} (h16 : n < 16) {P : Prop} {dP : Decidable P} (hP : P ↔ c ≠ ⟨n, h16⟩) {dst : P → Dev nD} (hd : ∀ h, dst h = ⟨n, h16⟩)
    {oM : Fin 3 → ℕ} (hM : oM = ![c.val, 0, 0]) {oS oR : Fin 1 → ℕ} (hS : oS = ![n]) (hR : oR = ![c.val])
    {bM : P → ∀ a, oM a + S1x2x512.size a ≤ S16x2x512.size a} {bS : P → ∀ a, oS a + S1.size a ≤ S16.size a} {bR : P → ∀ a, oR a + S1.size a ≤ S16.size a}
    {hsc : ∀ h, ((gM.slice (Rect.unit (s := S16x2x512) oM S1x2x512.size (bM h)) (fun _ => rfl)).squeeze S2x512 squeezes_S1x2x512_S2x512 : Memref sig (Dev.tc (dst h) : Thread nD τ).2.kind .vmem S2x512 .f32).view.ref.isScScratch = false}
    {hsrc : P → sM.view.WordExact} {hdst : ∀ h, ((gM.slice (Rect.unit (s := S16x2x512) oM S1x2x512.size (bM h)) (fun _ => rfl)).squeeze S2x512 squeezes_S1x2x512_S2x512).view.WordExact}
    {hsem : ∀ h, DmaTarget.Typed .vmem (.dma ((cc0_scratch6.slice (Rect.unit (s := S16) oR S1.size (bR h))).squeeze S_ squeezes_S1_S_).sem)
      (.remote (Dev.tc (dst h) : Thread nD τ) ((gM.slice (Rect.unit (s := S16x2x512) oM S1x2x512.size (bM h)) (fun _ => rfl)).squeeze S2x512 squeezes_S1x2x512_S2x512 : Memref sig (Dev.tc (dst h) : Thread nD τ).2.kind .vmem S2x512 .f32)
        (.dma ((cc0_scratch5.slice (Rect.unit (s := S16) oS S1.size (bS h))).squeeze S_ squeezes_S1_S_).sem) (hsc h))}
    {α : Type} {Kp : PR F α} {Q : α → sProp 𝕄} {X : sProp 𝕄} (hk : iprop(invs st K ∗ X ∗ sendSt st c (n + 1)) ⊢ WP c Kp Q) :
    iprop(invs st K ∗ X ∗ sendSt st c n)
      ⊢ WP c (dite P (fun h => (Prog.lift (.enqueueDma sM (.remote (Dev.tc (dst h) : Thread nD τ)
            ((gM.slice (Rect.unit (s := S16x2x512) oM S1x2x512.size (bM h)) (fun _ => rfl)).squeeze S2x512 squeezes_S1x2x512_S2x512)
            (.dma ((cc0_scratch5.slice (Rect.unit (s := S16) oS S1.size (bS h))).squeeze S_ squeezes_S1_S_).sem) (hsc h))
            (.dma ((cc0_scratch6.slice (Rect.unit (s := S16) oR S1.size (bR h))).squeeze S_ squeezes_S1_S_).sem) (hsrc h) (hdst h) (hsem h))) >>= fun _ => Kp)
          (fun _ => Kp)) Q :=
  step_send st K c ⟨n, h16⟩ hP hd (fun h => slot_of_off hM (bM h)) (fun h => by subst hS; rfl) (fun h => rcv_of_off hR (bR h)) rfl rfl hk

theorem next_recv (c : Dev nD) {n : ℕ} (h16 : n < 16) {P : Prop} {dP : Decidable P} (hP : P ↔ c ≠ ⟨n, h16⟩)
    {oM : Fin 3 → ℕ} (hM : oM = ![n, 0, 0]) {oR : Fin 1 → ℕ} (hR : oR = ![n])
    {bM : P → ∀ a, oM a + S1x2x512.size a ≤ S16x2x512.size a} {bR : P → ∀ a, oR a + S1.size a ≤ S16.size a}
    {hsrc : P → sM.view.WordExact} {hdst : ∀ h, ((gM.slice (Rect.unit (s := S16x2x512) oM S1x2x512.size (bM h)) (fun _ => rfl)).squeeze S2x512 squeezes_S1x2x512_S2x512).view.WordExact}
    {α : Type} {Kp : PR F α} {Q : α → sProp 𝕄} {X : sProp 𝕄} (hk : iprop(invs st K ∗ X ∗ recvSt st c (n + 1)) ⊢ WP c Kp Q) :
    iprop(invs st K ∗ X ∗ recvSt st c n)
      ⊢ WP c (dite P (fun h => (Prog.lift (.waitDma2 ((cc0_scratch6.slice (Rect.unit (s := S16) oR S1.size (bR h))).squeeze S_ squeezes_S1_S_).sem sM
          ((gM.slice (Rect.unit (s := S16x2x512) oM S1x2x512.size (bM h)) (fun _ => rfl)).squeeze S2x512 squeezes_S1x2x512_S2x512) (hsrc h) (hdst h))) >>= fun _ => Kp) (fun _ => Kp)) Q :=
  step_recv st K c ⟨n, h16⟩ hP (fun h => slot_of_off hM (bM h)) (fun h => rcv_of_off (i := ⟨n, h16⟩) hR (bR h)) rfl rfl hk

theorem next_sent (c : Dev nD) {n : ℕ} (h16 : n < 16) {P : Prop} {dP : Decidable P} (hP : P ↔ c ≠ ⟨n, h16⟩)
    {oS : Fin 1 → ℕ} (hS : oS = ![n]) {bS : P → ∀ a, oS a + S1.size a ≤ S16.size a} {M : P → Memref sig .tc .vmem S2x512 .f32}
    {hsrc : ∀ h, (M h).view.WordExact} {hdst : P → sM.view.WordExact}
    {α : Type} {Kp : PR F α} {Q : α → sProp 𝕄} {X : sProp 𝕄} (hk : iprop(invs st K ∗ X ∗ sentSt st c (n + 1)) ⊢ WP c Kp Q) :
    iprop(invs st K ∗ X ∗ sentSt st c n)
      ⊢ WP c (dite P (fun h => (Prog.lift (.waitDma2 ((cc0_scratch5.slice (Rect.unit (s := S16) oS S1.size (bS h))).squeeze S_ squeezes_S1_S_).sem (M h) sM (hsrc h) (hdst h))) >>= fun _ => Kp) (fun _ => Kp)) Q :=
  step_sent st K c ⟨n, h16⟩ hP (fun h => by subst hS; rfl) rfl rfl hk

end Cert.Exchange

end
-- ==== Proof.Front.lean ====
/-
# The signals, and the loads of a device's inputs

A device signals the fifteen others on their barrier semaphores; then it waits for the three copies and loads what they
brought.
-/
module

public import proofs.«01_k».proof.Proof.Fetch
public import proofs.«01_k».proof.Proof.Walks

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (st : Dev nD → S2x512.Idx → F .f32) (K : Dev nD × CI → ℕ)
variable (X : Dev nD → Vec F S512x1024 .f32) (Wv : Dev nD → Vec F S1024x8192 .f32) (lab : Dev nD → Vec F S512 .i32)

theorem part2_spec (c : Dev nD) (v12 v31 c0 : BitVec 32) {R : sProp 𝕄} {Q : _ → sProp 𝕄}
    (hk : iprop(invs st K ∗ R ∗ sigSt c 10) ⊢ Q ⟨Scalar.extui (Scalar.cmpi .ne v12 10#32), 0#32⟩) :
    iprop(invs st K ∗ R ∗ sigSt c 0) ⊢ WP c (k0_part2 aX (Memref.isWhole_whole _) aW (Memref.isWhole_whole _) lM (Memref.isWhole_whole _) oM (Memref.isWhole_whole _)
          xM (Memref.isWhole_whole _) wM (Memref.isWhole_whole _) sM (Memref.isWhole_whole _) gM (Memref.isWhole_whole _)
          cc0_scratch4 cc0_scratch5 cc0_scratch6 c v12 (SemArray.scalar (sig.barrier 0 rfl)) v31 c0) Q := by
  rw [k0_part2_eq_skeleton]
  unfold k0_part2_skel
  iterate 10
    with_reducible refine next_sig st K c ?_ ?_ ?_ ?_ ?_
    · decide
    · clear hk; revert c; decide +kernel
    · intro _; apply Fin.ext; dsimp only; decide +kernel
    · rfl
  exact WP_pure c hk

/-- The labels, in the buffer the launch fetched them to. -/
def labPts (c : Dev nD) : sProp 𝕄 := ((c : Thread nD τ).loc cc0_stg0_0) ↦{fullShare} (lab c : Buf (Elt F) ((c : Thread nD τ).loc cc0_stg0_0))
/-- The activations, in the device's own memory. -/
def xPts (c : Dev nD) : sProp 𝕄 := ((c : Thread nD τ).loc cc0_scratch0) ↦{fullShare} (X c : Buf (Elt F) ((c : Thread nD τ).loc cc0_scratch0))

theorem load_lab (c : Dev nD) {l : lM.view.LoadsAt (Rect.unit (s := S512) ![0] S512.size inb_S512_S512_0).toLoadRect}
    {α : Type} {k : Vec F S512 .i32 → PR F α} {Q : α → sProp 𝕄} :
    (labPts lab c : sProp 𝕄) ⊢ iprop((labPts lab c -∗ WP c (k (lab c)) Q)
      -∗ WP c (Prog.lift (.load lM (Rect.unit (s := S512) ![0] S512.size inb_S512_S512_0).toLoadRect l) >>= k) Q) := by
  have h := op_load c (m := lM) (r := (Rect.unit (s := S512) ![0] S512.size inb_S512_S512_0).toLoadRect) (l := l) (k := k) (Q := Q) (S := Finset.univ)
    (q := fullShare) (f := lab c) (Finset.subset_univ _)
  rw [show lM.view.readAt (Elt F) (Rect.unit (s := S512) ![0] S512.size inb_S512_S512_0).toLoadRect (lab c) = lab c
    from Memref.readAt_unit_zero (Elt F) cc0_stg0_0 (by funext a; fin_cases a; rfl) _ _] at h
  exact h

theorem load_x (c : Dev nD) {l : xM.view.LoadsAt (Rect.unit (s := S512x1024) ![0, 0] S512x1024.size inb_S512x1024_S512x1024_0_0).toLoadRect}
    {α : Type} {k : Vec F S512x1024 .f32 → PR F α} {Q : α → sProp 𝕄} :
    (xPts X c : sProp 𝕄) ⊢ iprop((xPts X c -∗ WP c (k (X c)) Q)
      -∗ WP c (Prog.lift (.load xM (Rect.unit (s := S512x1024) ![0, 0] S512x1024.size inb_S512x1024_S512x1024_0_0).toLoadRect l) >>= k) Q) := by
  have h := op_load c (m := xM) (r := (Rect.unit (s := S512x1024) ![0, 0] S512x1024.size inb_S512x1024_S512x1024_0_0).toLoadRect) (l := l) (k := k) (Q := Q)
    (S := Finset.univ) (q := fullShare) (f := X c) (Finset.subset_univ _)
  rw [show xM.view.readAt (Elt F) (Rect.unit (s := S512x1024) ![0, 0] S512x1024.size inb_S512x1024_S512x1024_0_0).toLoadRect (X c) = X c
    from Memref.readAt_unit_zero (Elt F) cc0_scratch0 (by funext a; fin_cases a <;> rfl) _ _] at h
  exact h

theorem part3_spec (c : Dev nD) (v12 v61 c0 : BitVec 32) {R : sProp 𝕄} {Q : _ → sProp 𝕄}
    (hk : iprop(invs st K ∗ R ∗ labPts lab c ∗ xPts X c ∗ argX X c ∗ semVal ((c : Thread nD τ), .dma locS2) 0 ∗ Owe c (rcvO c 0))
      ⊢ Q ⟨vIota, v87 lab c, k0_pay2 (F := F), k0_pay3 (F := F)⟩) :
    iprop(invs st K ∗ (R ∗ levAts L lv ∗ labPts lab c ∗ flyX X c) ∗ sigSt c 10) ⊢ WP c (k0_part3 aX (Memref.isWhole_whole _) aW (Memref.isWhole_whole _) lM (Memref.isWhole_whole _) oM (Memref.isWhole_whole _)
          xM (Memref.isWhole_whole _) wM (Memref.isWhole_whole _) sM (Memref.isWhole_whole _) gM (Memref.isWhole_whole _)
          cc0_scratch4 cc0_scratch5 cc0_scratch6 c (vY c) v12 (vCol c) (SemArray.scalar (sig.barrier 0 rfl)) v61 c0) Q := by
  rw [k0_part3_eq_skeleton]
  unfold k0_part3_skel
  iterate 6
    with_reducible refine next_sig st K c ?_ ?_ ?_ ?_ ?_
    · decide
    · clear hk; revert c; decide +kernel
    · intro _; apply Fin.ext; dsimp only; decide +kernel
    · rfl
  unfold flyX sigSt
  rw [barO_end, add_zero]
  iintro ⟨HI, ⟨HR, #Hlev, Hl, Hf⟩, -, HO⟩
  iapply (load_lab lab c) $$ Hl; iintro Hl
  iapply (op_fetched c (D := _) NX rfl (by decide) (rcvO c 0) (.inr (.inr ⟨0, rfl⟩))) $$ [Hf HO]
  · isplitl [Hf]; · iexact Hf
    isplitr; · iexact Hlev
    iexact HO
  iintro ⟨⟨Hx, HX⟩, Hv, HO⟩
  iapply (WP_pure c hk)
  unfold xPts
  isplitl [HI]; · iexact HI
  isplitl [HR]; · iexact HR
  isplitl [Hl]; · iexact Hl
  isplitl [Hx]; · iexact Hx
  isplitl [HX]; · iexact HX
  isplitl [Hv]; · iexact Hv
  iexact HO

theorem op_load_rect (c : Dev nD) {cs : CoreSpace} {s : Shape} {e : EltTy} {m : Memref sig .tc cs s e} {r : Rect s} {l : m.view.LoadsAt r.toLoadRect}
    {α : Type} {k : (r.shape.Idx → Elt F e) → PR F α} {Q : α → sProp 𝕄}
    {S : Finset (Idx ((m.access r).loc (c : Thread nD τ)))} {q : PosShare TreeShare} {f : Buf (Elt F) ((m.access r).loc (c : Thread nD τ))}
    (hS : (m.access r).set ⊆ S) :
    ((m.access r).loc (c : Thread nD τ) ↦[S]{q} f : sProp 𝕄)
      ⊢ iprop((((m.access r).loc (c : Thread nD τ) ↦[S]{q} f) -∗ WP c (k ((m.access r).read (Elt F) f)) Q) -∗ WP c (Prog.lift (.load m r.toLoadRect l) >>= k) Q) :=
  wp_load_rect 𝒱₀ (c : Thread nD τ) none Set.univ hS

/-- The two halves of the weights' buffer hold what was copied into them. -/
theorem load_w0 (c : Dev nD) (f : Vec F S1024x1024 .f32) {l : wM.view.LoadsAt (Rect.unit (s := S1024x1024) ![0, 0] S1024x512.size inb_S1024x1024_S1024x512_0_0).toLoadRect}
    {α : Type} {k : Vec F S1024x512 .f32 → PR F α} {Q : α → sProp 𝕄} :
    (dstPts c dstW0.view.set (dstW0.view.write (Elt F) f (w0 Wv c) Finset.univ) : sProp 𝕄)
      ⊢ iprop((dstPts c dstW0.view.set (dstW0.view.write (Elt F) f (w0 Wv c) Finset.univ) -∗ WP c (k (w0 Wv c)) Q)
        -∗ WP c (Prog.lift (.load wM (Rect.unit (s := S1024x1024) ![0, 0] S1024x512.size inb_S1024x1024_S1024x512_0_0).toLoadRect l) >>= k) Q) := by
  have h := op_load_rect c (m := wM) (r := Rect.unit (s := S1024x1024) ![0, 0] S1024x512.size inb_S1024x1024_S1024x512_0_0) (l := l) (k := k) (Q := Q) (S := dstW0.view.set)
    (q := fullShare) (f := dstW0.view.write (Elt F) f (w0 Wv c) Finset.univ) (Finset.Subset.refl _)
  rw [show (wM.access (Rect.unit (s := S1024x1024) ![0, 0] S1024x512.size inb_S1024x1024_S1024x512_0_0)).read (Elt F) (dstW0.view.write (Elt F) f (w0 Wv c) Finset.univ) = w0 Wv c
    from View.read_write_univ _ _] at h
  exact h

theorem load_w1 (c : Dev nD) (f : Vec F S1024x1024 .f32) {l : wM.view.LoadsAt (Rect.unit (s := S1024x1024) ![0, 512] S1024x512.size inb_S1024x1024_S1024x512_0_512).toLoadRect}
    {α : Type} {k : Vec F S1024x512 .f32 → PR F α} {Q : α → sProp 𝕄} :
    (dstPts c (Finset.univ \ dstW0.view.set) (dstW1.view.write (Elt F) f (w1 Wv c) Finset.univ) : sProp 𝕄)
      ⊢ iprop((dstPts c (Finset.univ \ dstW0.view.set) (dstW1.view.write (Elt F) f (w1 Wv c) Finset.univ) -∗ WP c (k (w1 Wv c)) Q)
        -∗ WP c (Prog.lift (.load wM (Rect.unit (s := S1024x1024) ![0, 512] S1024x512.size inb_S1024x1024_S1024x512_0_512).toLoadRect l) >>= k) Q) := by
  have h := op_load_rect c (m := wM) (r := Rect.unit (s := S1024x1024) ![0, 512] S1024x512.size inb_S1024x1024_S1024x512_0_512) (l := l) (k := k) (Q := Q) (S := Finset.univ \ dstW0.view.set)
    (q := fullShare) (f := dstW1.view.write (Elt F) f (w1 Wv c) Finset.univ)
    (fun x hx => Finset.mem_sdiff.mpr ⟨Finset.mem_univ _, Finset.disjoint_left.mp dst_disjoint hx⟩)
  rw [show (wM.access (Rect.unit (s := S1024x1024) ![0, 512] S1024x512.size inb_S1024x1024_S1024x512_0_512)).read (Elt F) (dstW1.view.write (Elt F) f (w1 Wv c) Finset.univ) = w1 Wv c
    from View.read_write_univ _ _] at h
  exact h

theorem part4_spec (c : Dev nD) (v14 : BitVec 32) {R : sProp 𝕄} {Q : _ → sProp 𝕄}
    (hk : iprop(R ∗ xPts X c ∗ anyW c ∗ argW Wv c ∗ semVal ((c : Thread nD τ), .dma locS0) 0 ∗ semVal ((c : Thread nD τ), .dma locS1) 0 ∗ Owe c (rcvO c 0))
      ⊢ Q ⟨v111 X Wv lab c, v120 X Wv c, v123 X Wv c, v127 lab c, Scalar.ofBits .f32 0x00000000#32⟩) :
    iprop(R ∗ levAts L lv ∗ xPts X c ∗ restW Wv c ∗ (∃ f : Vec F S1024x1024 .f32, flyW0 Wv c f ∗ flyW1 Wv c f) ∗ Owe c (rcvO c 0))
      ⊢ WP c (k0_part4 aX (Memref.isWhole_whole _) aW (Memref.isWhole_whole _) lM (Memref.isWhole_whole _) oM (Memref.isWhole_whole _)
          xM (Memref.isWhole_whole _) wM (Memref.isWhole_whole _) sM (Memref.isWhole_whole _) gM (Memref.isWhole_whole _)
          cc0_scratch4 cc0_scratch5 cc0_scratch6 c v14 vIota (v87 lab c) (k0_pay2 (F := F)) (k0_pay3 (F := F))) Q := by
  rw [k0_part4_eq_skeleton]
  unfold k0_part4_skel
  iintro ⟨HR, #Hlev, Hx, HWr, ⟨%f, Hf0, Hf1⟩, HO⟩
  unfold flyW0 flyW1
  iapply (op_fetched c (D := _) NW0 rfl (by decide) (rcvO c 0) (.inr (.inr ⟨0, rfl⟩))) $$ [Hf0 HO]
  · isplitl [Hf0]; · iexact Hf0
    isplitr; · iexact Hlev
    iexact HO
  iintro ⟨⟨Hd0, HW0⟩, Hv0, HO⟩
  iapply (load_x X c) $$ Hx; iintro Hx
  iapply (load_w0 Wv c f) $$ Hd0; iintro Hd0
  iapply (op_fetched c (D := _) NW1 rfl (by decide) (rcvO c 0) (.inr (.inr ⟨0, rfl⟩))) $$ [Hf1 HO]
  · isplitl [Hf1]; · iexact Hf1
    isplitr; · iexact Hlev
    iexact HO
  iintro ⟨⟨Hd1, HW1⟩, Hv1, HO⟩
  iapply (load_x X c) $$ Hx; iintro Hx
  iapply (load_w1 Wv c f) $$ Hd1; iintro Hd1
  ihave Hd := (dst_join c _ _) $$ [Hd0 Hd1]
  · isplitl [Hd0]; · iexact Hd0
    iexact Hd1
  ihave HW := (src_split Wv c).2 $$ [HW0 HW1 HWr]
  · isplitl [HW0]; · iexact HW0
    isplitl [HW1]; · iexact HW1
    iexact HWr
  iapply (WP_pure c hk)
  isplitl [HR]; · iexact HR
  isplitl [Hx]; · iexact Hx
  isplitl [Hd]; · iexact Hd
  isplitl [HW]; · iexact HW
  isplitl [Hv0]; · iexact Hv0
  isplitl [Hv1]; · iexact Hv1
  iexact HO

end Cert.Exchange

end
-- ==== Proof.Parts.lean ====
/-
# The exchange, part by part

The kernel's text comes in parts; here is what each of the parts that exchange rows does to the state of its walk.
-/
module

public import proofs.«01_k».proof.Proof.Front

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (K : Dev nD × CI → ℕ)
variable (X : Dev nD → Vec F S512x1024 .f32) (Wv : Dev nD → Vec F S1024x8192 .f32) (lab : Dev nD → Vec F S512 .i32)

/-! ## The rows -/

/-- A row viewed as one row of one slot. -/
theorem row_cast (v : FVec F S512 .f32) (b : Fin 512) :
    shapeCast S1x1x512 v shapeCasts_S512_S1x1x512 (ix3 (0 : Fin 1) (0 : Fin 1) b) = v (ix1 b) := by
  refine shapeCast_apply _ _ _ _ ?_
  rw [Shape.rowMajor_val_three, Shape.rowMajor_val_one]
  show b.val = (0 * 1 + 0) * 512 + b.val
  omega

theorem own_row0 (c : Dev nD) (b : Fin 512) :
    shapeCast S1x1x512 (v123 X Wv c) shapeCasts_S512_S1x1x512 (ix3 (0 : Fin 1) (0 : Fin 1) b) = st X Wv lab c (ix2 (0 : Fin 2) b) :=
  (row_cast _ b).trans (if_pos rfl).symm

theorem own_row1 (c : Dev nD) (b : Fin 512) :
    shapeCast S1x1x512 (v131 X Wv lab c) shapeCasts_S512_S1x1x512 (ix3 (0 : Fin 1) (0 : Fin 1) b) = st X Wv lab c (ix2 (1 : Fin 2) b) :=
  (row_cast _ b).trans (if_neg Nat.one_ne_zero).symm

theorem rows_row0 (c : Dev nD) (b : Fin 512) :
    shapeCast S1x512 (v123 X Wv c) shapeCasts_S512_S1x512 (ix2 (0 : Fin 1) b) = st X Wv lab c (ix2 (0 : Fin 2) b) :=
  (shapeCast_a_1a_apply (v123 X Wv c) shapeCasts_S512_S1x512 0 b).trans (if_pos rfl).symm

theorem rows_row1 (c : Dev nD) (b : Fin 512) :
    shapeCast S1x512 (v131 X Wv lab c) shapeCasts_S512_S1x512 (ix2 (0 : Fin 1) b) = st X Wv lab c (ix2 (1 : Fin 2) b) :=
  (shapeCast_a_1a_apply (v131 X Wv lab c) shapeCasts_S512_S1x512 0 b).trans (if_neg Nat.one_ne_zero).symm

/-- The row buffer before anything is stored to it. -/
def anyRows (c : Dev nD) : sProp 𝕄 := iprop(∃ f : S2x512.Idx → F .f32, rowsPts c fullShare f)

theorem step_rows (c : Dev nD)
    {l0 : sM.view.LoadsAt (Rect.unit (s := S2x512) ![0, 0] S1x512.size inb_S2x512_S1x512_0_0).toLoadRect}
    {l1 : sM.view.LoadsAt (Rect.unit (s := S2x512) ![1, 0] S1x512.size inb_S2x512_S1x512_1_0).toLoadRect}
    {s0 : (sM.access (Rect.unit (s := S2x512) ![0, 0] S1x512.size inb_S2x512_S1x512_0_0)).Stores Finset.univ}
    {s1 : (sM.access (Rect.unit (s := S2x512) ![1, 0] S1x512.size inb_S2x512_S1x512_1_0)).Stores Finset.univ}
    {m0 m1} {p0 p1 : S1x512.Idx → F .f32}
    (hp0 : ∀ b : Fin 512, p0 (ix2 (0 : Fin 1) b) = st X Wv lab c (ix2 (0 : Fin 2) b))
    (hp1 : ∀ b : Fin 512, p1 (ix2 (0 : Fin 1) b) = st X Wv lab c (ix2 (1 : Fin 2) b))
    {α : Type} {Kp : PR F α} {Q : α → sProp 𝕄} {I R O : sProp 𝕄} (hk : iprop(I ∗ (R ∗ rowsPts c fullShare (st X Wv lab c)) ∗ O) ⊢ WP c Kp Q) :
    iprop(I ∗ (R ∗ anyRows c) ∗ O)
      ⊢ WP c ((Prog.lift (.load sM (Rect.unit (s := S2x512) ![0, 0] S1x512.size inb_S2x512_S1x512_0_0).toLoadRect l0)) >>= fun (_ : Vec F S1x512 .f32) =>
          (Prog.lift (.store sM (Rect.unit (s := S2x512) ![0, 0] S1x512.size inb_S2x512_S1x512_0_0) p0 Finset.univ s0 m0)) >>= fun _ =>
          (Prog.lift (.load sM (Rect.unit (s := S2x512) ![1, 0] S1x512.size inb_S2x512_S1x512_1_0).toLoadRect l1)) >>= fun (_ : Vec F S1x512 .f32) =>
          (Prog.lift (.store sM (Rect.unit (s := S2x512) ![1, 0] S1x512.size inb_S2x512_S1x512_1_0) p1 Finset.univ s1 m1)) >>= fun _ => Kp) Q := by
  unfold anyRows
  iintro ⟨HI, ⟨HR, %f, Hs⟩, HO⟩
  ihave Hs := (Entails.of_eq (rowsPts_eq c fullShare f)) $$ Hs
  iapply (op_load c (m := sM) (S := Finset.univ) (q := fullShare) (f := f) (Finset.subset_univ _)) $$ Hs; iintro Hs
  iapply (op_store c (m := sM) (r := Rect.unit (s := S2x512) ![0, 0] S1x512.size inb_S2x512_S1x512_0_0) (S := Finset.univ) (Finset.subset_univ _)) $$ Hs; iintro Hs
  iapply (op_load c (m := sM) (S := Finset.univ) (q := fullShare) (Finset.subset_univ _)) $$ Hs; iintro Hs
  iapply (op_store c (m := sM) (r := Rect.unit (s := S2x512) ![1, 0] S1x512.size inb_S2x512_S1x512_1_0) (S := Finset.univ) (Finset.subset_univ _)) $$ Hs; iintro Hs
  rw [rows_write rfl rfl f p0 p1 (st X Wv lab c) hp0 hp1]
  iapply hk
  isplitl [HI]; · iexact HI
  isplitl [HR Hs]
  · isplitl [HR]; · iexact HR
    iapply (Entails.of_eq (rowsPts_eq c fullShare (st X Wv lab c)).symm) $$ Hs
  iexact HO

/-! ## The result -/

/-- The whole gather buffer holding every device's rows. -/
def gathered (c : Dev nD) : sProp 𝕄 := gatherLoc c ↦{fullShare} (gat (st X Wv lab) : Buf (Elt F) (gatherLoc c))
def anyOut (c : Dev nD) : sProp 𝕄 := iprop(∃ f : Vec F S512 .f32, ((c : Thread nD τ).loc cc0_stg1_0) ↦{fullShare} (f : Buf (Elt F) ((c : Thread nD τ).loc cc0_stg1_0)))
def outPts (c : Dev nD) : sProp 𝕄 := ((c : Thread nD τ).loc cc0_stg1_0) ↦{fullShare} (k0_pay44 (gat (st X Wv lab)) : Buf (Elt F) ((c : Thread nD τ).loc cc0_stg1_0))

theorem step_out (c : Dev nD)
    {l0 : gM.view.LoadsAt (Rect.unit (s := S16x2x512) ![0, 0, 0] S16x2x512.size inb_S16x2x512_S16x2x512_0_0_0).toLoadRect}
    {l1 : oM.view.LoadsAt (Rect.unit (s := S512) ![0] S512.size inb_S512_S512_0).toLoadRect}
    {s1 : (oM.access (Rect.unit (s := S512) ![0] S512.size inb_S512_S512_0)).Stores Finset.univ} {m1}
    {α : Type} {Kp : PR F α} {Q : α → sProp 𝕄} {I R O : sProp 𝕄} (hk : iprop(I ∗ (R ∗ gathered X Wv lab c ∗ outPts X Wv lab c) ∗ O) ⊢ WP c Kp Q) :
    iprop(I ∗ (R ∗ gathered X Wv lab c ∗ anyOut c) ∗ O)
      ⊢ WP c ((Prog.lift (.load gM (Rect.unit (s := S16x2x512) ![0, 0, 0] S16x2x512.size inb_S16x2x512_S16x2x512_0_0_0).toLoadRect l0)) >>= fun (v282 : Vec F S16x2x512 .f32) =>
          (Prog.lift (.load oM (Rect.unit (s := S512) ![0] S512.size inb_S512_S512_0).toLoadRect l1)) >>= fun (_ : Vec F S512 .f32) =>
          (Prog.lift (.store oM (Rect.unit (s := S512) ![0] S512.size inb_S512_S512_0) (k0_pay44 v282) Finset.univ s1 m1)) >>= fun _ => Kp) Q := by
  unfold anyOut gathered
  iintro ⟨HI, ⟨HR, Hg, %f, Ho⟩, HO⟩
  iapply (op_load c (m := gM) (S := Finset.univ) (q := fullShare) (f := gat (st X Wv lab)) (Finset.subset_univ _)) $$ Hg; iintro Hg
  rw [show gM.view.readAt (Elt F) (Rect.unit (s := S16x2x512) ![0, 0, 0] S16x2x512.size inb_S16x2x512_S16x2x512_0_0_0).toLoadRect (gat (st X Wv lab)) = gat (st X Wv lab)
    from Memref.readAt_unit_zero (Elt F) cc0_scratch3 (by funext a; fin_cases a <;> rfl) _ _]
  iapply (op_load c (m := oM) (S := Finset.univ) (q := fullShare) (f := f) (Finset.subset_univ _)) $$ Ho; iintro Ho
  iapply (op_store c (m := oM) (r := Rect.unit (s := S512) ![0] S512.size inb_S512_S512_0) (S := Finset.univ) (Finset.subset_univ _)) $$ Ho; iintro Ho
  rw [show (oM.access (Rect.unit (s := S512) ![0] S512.size inb_S512_S512_0)).write (Elt F) f (k0_pay44 (gat (st X Wv lab))) Finset.univ = k0_pay44 (gat (st X Wv lab))
    from Memref.write_access_unit_zero_univ (Elt F) cc0_stg1_0 (by funext a; fin_cases a; rfl) _ _ _]
  iapply hk
  unfold gathered outPts
  isplitl [HI]; · iexact HI
  isplitl [HR Hg Ho]
  · isplitl [HR]; · iexact HR
    isplitl [Hg]; · iexact Hg
    iexact Ho
  iexact HO

/-! ## The parts -/

theorem part5_spec (c : Dev nD) {R : sProp 𝕄} {Q : _ → sProp 𝕄}
    (hk : iprop(invs (st X Wv lab) K ∗ (R ∗ rowsPts c fullShare (st X Wv lab c)) ∗ ownSt (st X Wv lab) c 7) ⊢ Q ⟨v131 X Wv lab c, 7#32⟩) :
    iprop(invs (st X Wv lab) K ∗ (R ∗ anyRows c) ∗ ownSt (st X Wv lab) c 0) ⊢ WP c (k0_part5 aX (Memref.isWhole_whole _) aW (Memref.isWhole_whole _) lM (Memref.isWhole_whole _) oM (Memref.isWhole_whole _)
          xM (Memref.isWhole_whole _) wM (Memref.isWhole_whole _) sM (Memref.isWhole_whole _) gM (Memref.isWhole_whole _)
          cc0_scratch4 cc0_scratch5 cc0_scratch6 (vMe c) (v111 X Wv lab c) (v120 X Wv c) (v123 X Wv c) (v127 lab c) (Scalar.ofBits .f32 0x00000000#32)) Q := by
  rw [k0_part5_eq_skeleton]
  unfold k0_part5_skel
  with_reducible refine step_rows X Wv lab c ?_ ?_ ?_
  · intro b; exact rows_row0 X Wv lab c b
  · intro b; exact rows_row1 X Wv lab c b
  iterate 7
    with_reducible refine next_own (st X Wv lab) K c ?_ ?_ ?_ ?_ ?_ ?_ ?_
    · decide
    · clear hk; revert c; decide +kernel
    · rfl
    · rfl
    · intro b; exact own_row0 X Wv lab c b
    · intro b; exact own_row1 X Wv lab c b
  exact WP_pure c hk

theorem part6_spec (c : Dev nD) {R : sProp 𝕄} {Q : _ → sProp 𝕄}
    (hk : iprop(invs (st X Wv lab) K ∗ (R ∗ ownSt (st X Wv lab) c 16) ∗ barB c) ⊢ Q ⟨Scalar.extui (Scalar.cmpi .ne (vMe c) 0#32), 0#32⟩) :
    iprop(invs (st X Wv lab) K ∗ (R ∗ barA c) ∗ ownSt (st X Wv lab) c 7) ⊢ WP c (k0_part6 aX (Memref.isWhole_whole _) aW (Memref.isWhole_whole _) lM (Memref.isWhole_whole _) oM (Memref.isWhole_whole _)
          xM (Memref.isWhole_whole _) wM (Memref.isWhole_whole _) sM (Memref.isWhole_whole _) gM (Memref.isWhole_whole _)
          cc0_scratch4 cc0_scratch5 cc0_scratch6 (vMe c) (SemArray.scalar (sig.barrier 0 rfl)) (v123 X Wv c) (v131 X Wv lab c) 7#32) Q := by
  rw [k0_part6_eq_skeleton]
  unfold k0_part6_skel
  iterate 9
    with_reducible refine next_own (st X Wv lab) K c ?_ ?_ ?_ ?_ ?_ ?_ ?_
    · decide
    · clear hk; revert c; decide +kernel
    · rfl
    · rfl
    · intro b; exact own_row0 X Wv lab c b
    · intro b; exact own_row1 X Wv lab c b
  refine (show _ ⊢ iprop(invs (st X Wv lab) K ∗ (R ∗ ownSt (st X Wv lab) c 16) ∗ barA c) from ?_).trans (step_bar (st X Wv lab) K c rfl (WP_pure c hk))
  iintro ⟨HI, ⟨HR, Hb⟩, Ho⟩
  isplitl [HI]; · iexact HI
  isplitl [HR Ho]
  · isplitl [HR]; · iexact HR
    iexact Ho
  iexact Hb

theorem part7_spec (c : Dev nD) (v187 c0 : BitVec 32) {R : sProp 𝕄} {Q : _ → sProp 𝕄}
    (hk : iprop(invs (st X Wv lab) K ∗ R ∗ sendSt (st X Wv lab) c 10) ⊢ Q ⟨Scalar.extui (Scalar.cmpi .ne (vMe c) 10#32), 0#32⟩) :
    iprop(invs (st X Wv lab) K ∗ R ∗ sendSt (st X Wv lab) c 0) ⊢ WP c (k0_part7 aX (Memref.isWhole_whole _) aW (Memref.isWhole_whole _) lM (Memref.isWhole_whole _) oM (Memref.isWhole_whole _)
          xM (Memref.isWhole_whole _) wM (Memref.isWhole_whole _) sM (Memref.isWhole_whole _) gM (Memref.isWhole_whole _)
          cc0_scratch4 cc0_scratch5 cc0_scratch6 c (vMe c) v187 c0) Q := by
  rw [k0_part7_eq_skeleton]
  unfold k0_part7_skel
  iterate 10
    with_reducible refine next_send (st X Wv lab) K c ?_ ?_ ?_ ?_ ?_ ?_ ?_
    · decide
    · clear hk; revert c; decide +kernel
    · intro _; apply Fin.ext; dsimp only; decide +kernel
    · clear hk; revert c; decide +kernel
    · rfl
    · clear hk; revert c; decide +kernel
  exact WP_pure c hk

theorem part8_spec (c : Dev nD) (v217 c0 : BitVec 32) {R : sProp 𝕄} {Q : _ → sProp 𝕄}
    (hk : iprop(invs (st X Wv lab) K ∗ (R ∗ bigSep (Finset.univ.erase c) (sendB c)) ∗ recvSt (st X Wv lab) c 4) ⊢ Q ⟨Scalar.extui (Scalar.cmpi .ne (vMe c) 4#32), 0#32⟩) :
    iprop(invs (st X Wv lab) K ∗ (R ∗ (Owe c (rcvO c 16) -∗ recvSt (st X Wv lab) c 0)) ∗ sendSt (st X Wv lab) c 10) ⊢ WP c (k0_part8 aX (Memref.isWhole_whole _) aW (Memref.isWhole_whole _) lM (Memref.isWhole_whole _) oM (Memref.isWhole_whole _)
          xM (Memref.isWhole_whole _) wM (Memref.isWhole_whole _) sM (Memref.isWhole_whole _) gM (Memref.isWhole_whole _)
          cc0_scratch4 cc0_scratch5 cc0_scratch6 c (vMe c) v217 c0) Q := by
  rw [k0_part8_eq_skeleton]
  unfold k0_part8_skel
  iterate 6
    with_reducible refine next_send (st X Wv lab) K c ?_ ?_ ?_ ?_ ?_ ?_ ?_
    · decide
    · clear hk; revert c; decide +kernel
    · intro _; apply Fin.ext; dsimp only; decide +kernel
    · clear hk; revert c; decide +kernel
    · rfl
    · clear hk; revert c; decide +kernel
  refine (show _ ⊢ iprop(invs (st X Wv lab) K ∗ (R ∗ bigSep (Finset.univ.erase c) (sendB c)) ∗ recvSt (st X Wv lab) c 0) from ?_).trans ?_
  · unfold sendSt
    iintro ⟨HI, ⟨HR, Hw⟩, Hs, HO⟩
    isplitl [HI]; · iexact HI
    isplitl [HR Hs]
    · isplitl [HR]; · iexact HR
      iapply (walk_end c _ _) $$ Hs
    iapply Hw; iexact HO
  iterate 4
    with_reducible refine next_recv (st X Wv lab) K c ?_ ?_ ?_ ?_ ?_
    · decide
    · clear hk; revert c; decide +kernel
    · rfl
    · rfl
  exact WP_pure c hk

theorem part9_spec (c : Dev nD) {R : sProp 𝕄} {Q : _ → sProp 𝕄}
    (hk : iprop(invs (st X Wv lab) K ∗ R ∗ recvSt (st X Wv lab) c 14) ⊢ Q ⟨Scalar.extui (Scalar.cmpi .ne (vMe c) 14#32), 0#32⟩) :
    iprop(invs (st X Wv lab) K ∗ R ∗ recvSt (st X Wv lab) c 4) ⊢ WP c (k0_part9 aX (Memref.isWhole_whole _) aW (Memref.isWhole_whole _) lM (Memref.isWhole_whole _) oM (Memref.isWhole_whole _)
          xM (Memref.isWhole_whole _) wM (Memref.isWhole_whole _) sM (Memref.isWhole_whole _) gM (Memref.isWhole_whole _)
          cc0_scratch4 cc0_scratch5 cc0_scratch6 (vMe c) (Scalar.extui (Scalar.cmpi .ne (vMe c) 4#32)) 0#32) Q := by
  rw [k0_part9_eq_skeleton]
  unfold k0_part9_skel
  iterate 10
    with_reducible refine next_recv (st X Wv lab) K c ?_ ?_ ?_ ?_ ?_
    · decide
    · clear hk; revert c; decide +kernel
    · rfl
    · rfl
  exact WP_pure c hk

theorem part10_spec (c : Dev nD) {R E : sProp 𝕄} {Q : _ → sProp 𝕄}
    (hk : iprop(invs (st X Wv lab) K ∗ ((R ∗ E) ∗ gathered X Wv lab c ∗ outPts X Wv lab c) ∗ sentSt (st X Wv lab) c 6) ⊢ Q 6#32) :
    iprop(invs (st X Wv lab) K ∗ ((R ∗ (recvSt (st X Wv lab) c 16 -∗ iprop((gathered X Wv lab c ∗ E ∗ sentSt (st X Wv lab) c 0)))) ∗ anyOut c) ∗ recvSt (st X Wv lab) c 14) ⊢ WP c (k0_part10 aX (Memref.isWhole_whole _) aW (Memref.isWhole_whole _) lM (Memref.isWhole_whole _) oM (Memref.isWhole_whole _)
          xM (Memref.isWhole_whole _) wM (Memref.isWhole_whole _) sM (Memref.isWhole_whole _) gM (Memref.isWhole_whole _)
          cc0_scratch4 cc0_scratch5 cc0_scratch6 c (vMe c) (Scalar.extui (Scalar.cmpi .ne (vMe c) 14#32)) 0#32) Q := by
  rw [k0_part10_eq_skeleton]
  unfold k0_part10_skel
  iterate 2
    with_reducible refine next_recv (st X Wv lab) K c ?_ ?_ ?_ ?_ ?_
    · decide
    · clear hk; revert c; decide +kernel
    · rfl
    · rfl
  refine (show _ ⊢ iprop(invs (st X Wv lab) K ∗ ((R ∗ E) ∗ gathered X Wv lab c ∗ anyOut c) ∗ sentSt (st X Wv lab) c 0) from ?_).trans ?_
  · iintro ⟨HI, ⟨⟨HR, Hw⟩, Ho⟩, Hs⟩
    ihave H := Hw $$ Hs
    icases H with ⟨Hg, HE, Hs⟩
    isplitl [HI]; · iexact HI
    isplitl [HR HE Hg Ho]
    · isplitl [HR HE]
      · isplitl [HR]; · iexact HR
        iexact HE
      isplitl [Hg]; · iexact Hg
      iexact Ho
    iexact Hs
  with_reducible refine step_out X Wv lab c ?_
  iterate 6
    with_reducible refine next_sent (st X Wv lab) K c ?_ ?_ ?_ ?_
    · decide
    · clear hk; revert c; decide +kernel
    · rfl
  exact WP_pure c hk

end Cert.Exchange

end
-- ==== Proof.Body.lean ====
/-
# The kernel's body

Its parts one after the other: from what a device holds at the start of the launch to what it holds at the end.
-/
module

public import proofs.«01_k».proof.Proof.Parts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (K : Dev nD × CI → ℕ)
variable (X : Dev nD → Vec F S512x1024 .f32) (Wv : Dev nD → Vec F S1024x8192 .f32) (lab : Dev nD → Vec F S512 .i32)

/-! ## From one walk to the next -/

/-- The right to one copy's two completions. -/
def sndTok (c i : Dev nD) : sProp 𝕄 := iprop(dutyTok ER (sndC c i) 0 i ∗ dutyTok ER (rcvC i c) 0 c)
/-- What is kept of a device's rows while the fifteen copies read them. -/
def rowsKept (c : Dev nD) : sProp 𝕄 := iprop(rowsPts c (Transfers.shareDrop fullShare 16) (st X Wv lab c) ∗ rowsPts c (lent c) (st X Wv lab c))

theorem bigSep_pair (s : Finset (Dev nD)) (Φ Ψ : Dev nD → sProp 𝕄) :
    (bigSep s fun i => iprop(Φ i ∗ Ψ i)) = (iprop(bigSep s Φ ∗ bigSep s Ψ) : sProp 𝕄) := BI.bigSep_sep s Φ Ψ

theorem bigSep_own (c : Dev nD) (Φ : Dev nD → sProp 𝕄) : bigSep Finset.univ Φ = (iprop(Φ c ∗ bigSep (Finset.univ.erase c) Φ) : sProp 𝕄) :=
  BI.bigSep_erase (Finset.mem_univ c)

theorem rows_lend (c : Dev nD) : (rowsPts c fullShare (st X Wv lab c) : sProp 𝕄)
    ⊣⊢ iprop(rowsKept X Wv lab c ∗ bigSep (Finset.univ.erase c) fun i => rowsPts c (lent i) (st X Wv lab c)) := by
  have h := Transfers.pointsTo_toks (Ix := Unit) (Val := Elt F) (Name := ℕ) (U := UU) (Lvl := ℕ) (ℓ := sM.view.loc (c : Thread nD τ)) (S := sM.view.set)
    (f := (st X Wv lab c : Buf (Elt F) (sM.view.loc (c : Thread nD τ)))) fullShare 16
  rw [BI.bigSep_erase (Finset.mem_univ c)] at h
  unfold rowsKept
  exact ⟨h.1.trans sep_assoc.2, sep_assoc.1.trans h.2⟩

theorem to_send (c : Dev nD) :
    iprop(rowsPts c fullShare (st X Wv lab c) ∗ (bigSep (Finset.univ.erase c) fun j => barPay (F := F) c j) ∗ bigSep (Finset.univ.erase c) (sndTok c) ∗ Owe c (rcvO c 0))
      ⊢ iprop(rowsKept X Wv lab c ∗ sendSt (st X Wv lab) c 0) := by
  iintro ⟨Hr, Hp, Ht, HO⟩
  ihave Hr := (rows_lend X Wv lab c).1 $$ Hr
  icases Hr with ⟨Hk, Hr⟩
  isplitl [Hk]; · iexact Hk
  unfold sendSt
  isplitr [HO]
  · iapply (walk_start c _ _)
    have e : bigSep (Finset.univ.erase c) (sendA (st X Wv lab) c)
        = (iprop((bigSep (Finset.univ.erase c) fun j => barPay (F := F) c j) ∗ (bigSep (Finset.univ.erase c) fun i => rowsPts c (lent i) (st X Wv lab c))
            ∗ bigSep (Finset.univ.erase c) (sndTok c)) : sProp 𝕄) := by
      rw [← bigSep_pair, ← bigSep_pair]; rfl
    iapply (Entails.of_eq e.symm)
    isplitl [Hp]; · iexact Hp
    isplitl [Hr]; · iexact Hr
    iexact Ht
  · iexact HO

theorem to_recv (c : Dev nD) :
    iprop(bigSep (Finset.univ.erase c) (recvA c) ∗ Owe c (rcvO c 16)) ⊢ (recvSt (st X Wv lab) c 0 : sProp 𝕄) := by
  unfold recvSt
  rw [rcvO_end]
  exact sep_mono_left (walk_start c _ _)

theorem to_sent (c : Dev nD) :
    iprop(ownSt (st X Wv lab) c 16 ∗ bigSep (Finset.univ.erase c) (sendB c) ∗ (bigSep (Finset.univ.erase c) fun i => atPos ER (sndC c i) 0 ∅ 0) ∗ recvSt (st X Wv lab) c 16)
      ⊢ (iprop(gathered X Wv lab c ∗ (bigSep (Finset.univ.erase c) fun j => semVal (rcvC c j) 0) ∗ sentSt (st X Wv lab) c 0) : sProp 𝕄) := by
  unfold ownSt recvSt sentSt
  rw [if_pos (show c.val < 16 from c.isLt)]
  iintro ⟨Ho, Hb, Hat, Hw, HO⟩
  ihave Hw := (walk_end c _ _) $$ Hw
  have e : bigSep (Finset.univ.erase c) (recvB (st X Wv lab) c)
      = (iprop((bigSep (Finset.univ.erase c) fun j => slotPts c j (gat (st X Wv lab))) ∗ bigSep (Finset.univ.erase c) fun j => semVal (rcvC c j) 0) : sProp 𝕄) := by
    rw [← bigSep_pair]; rfl
  ihave Hw := (Entails.of_eq e) $$ Hw
  icases Hw with ⟨Hg, Hv⟩
  isplitl [Ho Hg]
  · unfold gathered
    iapply (Entails.of_eq (gather_split c (gat (st X Wv lab))).symm)
    iapply (Entails.of_eq (bigSep_own c _).symm)
    isplitl [Ho]; · iexact Ho
    iexact Hg
  isplitl [Hv]; · iexact Hv
  isplitr [HO]
  · iapply (walk_start c _ _)
    have e2 : bigSep (Finset.univ.erase c) (sentA c)
        = (iprop(bigSep (Finset.univ.erase c) (sendB c) ∗ bigSep (Finset.univ.erase c) fun i => atPos ER (sndC c i) 0 ∅ 0) : sProp 𝕄) := by
      rw [← bigSep_pair]; rfl
    iapply (Entails.of_eq e2.symm)
    isplitl [Hb]; · iexact Hb
    iexact Hat
  · iexact HO

theorem at_end (c : Dev nD) :
    iprop(rowsKept X Wv lab c ∗ sentSt (st X Wv lab) c 16)
      ⊢ (iprop(rowsPts c fullShare (st X Wv lab c) ∗ (bigSep (Finset.univ.erase c) fun i => semVal (sndC c i) 0) ∗ Owe c 0) : sProp 𝕄) := by
  unfold sentSt
  iintro ⟨Hk, Hw, HO⟩
  ihave Hw := (walk_end c _ _) $$ Hw
  have e : bigSep (Finset.univ.erase c) (sentB (st X Wv lab) c)
      = (iprop((bigSep (Finset.univ.erase c) fun i => rowsPts c (lent i) (st X Wv lab c)) ∗ bigSep (Finset.univ.erase c) fun i => semVal (sndC c i) 0) : sProp 𝕄) := by
    rw [← bigSep_pair]; rfl
  ihave Hw := (Entails.of_eq e) $$ Hw
  icases Hw with ⟨Hr, Hv⟩
  isplitl [Hk Hr]
  · iapply (rows_lend X Wv lab c).2
    isplitl [Hk]; · iexact Hk
    iexact Hr
  isplitl [Hv]; · iexact Hv
  iexact HO

/-! ## The whole body -/

/-- What a device holds at the start, apart from the cells' invariants, -/
def bodyPre (c : Dev nD) : sProp 𝕄 :=
  iprop(levAts L lv ∗ idle X Wv c ∗ labPts lab c ∗ anyRows c ∗ (∃ f : S16x2x512.Idx → F .f32, slotPts c c f) ∗ sigSt c 0
    ∗ (cred (tallyAt (barC c) () 15) ∗ atPos ER (barC c) 0 ∅ 0) ∗ bigSep (Finset.univ.erase c) (sndTok c) ∗ bigSep (Finset.univ.erase c) (recvA c)
    ∗ (bigSep (Finset.univ.erase c) fun i => atPos ER (sndC c i) 0 ∅ 0) ∗ anyOut c)
/-- and what it holds at the end. -/
def bodyPost (c : Dev nD) : sProp 𝕄 :=
  iprop(argX X c ∗ argW Wv c ∗ xPts X c ∗ anyW c ∗ locSems c ∗ labPts lab c ∗ rowsPts c fullShare (st X Wv lab c) ∗ gathered X Wv lab c ∗ outPts X Wv lab c
    ∗ semVal (barC c) 0 ∗ (bigSep (Finset.univ.erase c) fun j => semVal (rcvC c j) 0) ∗ (bigSep (Finset.univ.erase c) fun i => semVal (sndC c i) 0) ∗ Owe c 0)

/-- What the last waits leave alone. -/
def bodyRest (c : Dev nD) : sProp 𝕄 :=
  iprop(argX X c ∗ argW Wv c ∗ xPts X c ∗ anyW c ∗ locSems c ∗ labPts lab c ∗ rowsKept X Wv lab c ∗ semVal (barC c) 0)

theorem body_end (c : Dev nD) :
    iprop(invs (st X Wv lab) K ∗ ((bodyRest X Wv lab c ∗ bigSep (Finset.univ.erase c) fun j => semVal (rcvC c j) 0)
        ∗ gathered X Wv lab c ∗ outPts X Wv lab c) ∗ sentSt (st X Wv lab) c 16) ⊢ bodyPost X Wv lab c := by
  unfold bodyRest bodyPost
  iintro ⟨-, ⟨⟨⟨HaX, HaW, Hx, HW, Hs, Hlab, Hkept, Hsb⟩, Hvr⟩, Hg, Hout⟩, Hsent⟩
  ihave H := (at_end X Wv lab c) $$ [Hkept Hsent]
  · isplitl [Hkept]; · iexact Hkept
    iexact Hsent
  icases H with ⟨Hrows, Hvs, HO⟩
  isplitl [HaX]; · iexact HaX
  isplitl [HaW]; · iexact HaW
  isplitl [Hx]; · iexact Hx
  isplitl [HW]; · iexact HW
  isplitl [Hs]; · iexact Hs
  isplitl [Hlab]; · iexact Hlab
  isplitl [Hrows]; · iexact Hrows
  isplitl [Hg]; · iexact Hg
  isplitl [Hout]; · iexact Hout
  isplitl [Hsb]; · iexact Hsb
  isplitl [Hvr]; · iexact Hvr
  isplitl [Hvs]; · iexact Hvs
  iexact HO

set_option maxHeartbeats 4000000 in
theorem body_spec (c : Dev nD) {Q : PUnit → sProp 𝕄} (hQ : bodyPost X Wv lab c ⊢ Q ⟨⟩) :
    iprop(invs (st X Wv lab) K ∗ bodyPre X Wv lab c) ⊢ WP c (cc0_body aX (Memref.isWhole_whole _) aW (Memref.isWhole_whole _) lM (Memref.isWhole_whole _) oM (Memref.isWhole_whole _)
          xM (Memref.isWhole_whole _) wM (Memref.isWhole_whole _) sM (Memref.isWhole_whole _) gM (Memref.isWhole_whole _)
          cc0_scratch4 cc0_scratch5 cc0_scratch6) Q := by
  rw [cc0_body_eq_skeleton]
  unfold cc0_body_skel
  refine WP_bind c ?_
  rw [k0_part11_eq_skeleton]
  unfold k0_part11_skel
  unfold bodyPre
  iintro ⟨#HI, #Hlev, Hidle, Hlab, Hrows, Hslot, Hsig, ⟨Hcb, Hab⟩, Htok, Hrecv, Hsent, Hout⟩
  -- the copies start
  iapply (WP_bind c (part1_spec X Wv c (R := iprop(flying X Wv c -∗ _)) wand_elim_left))
  isplitr [Hidle]
  swap; · iexact Hidle
  iintro Hfly
  unfold flying
  icases Hfly with ⟨HfX, HrW, HfW⟩
  -- the signals
  iapply (WP_bind c (part2_spec (st X Wv lab) K c (vMe c) _ _ (R := iprop(sigSt c 10 -∗ _)) (sep_elim_right.trans wand_elim_left)))
  isplitr; · iexact HI
  isplitr [Hsig]
  swap; · iexact Hsig
  iintro Hsig
  iapply (WP_bind c (part3_spec (st X Wv lab) K X lab c (vMe c) _ _
    (R := iprop((labPts lab c ∗ xPts X c ∗ argX X c ∗ semVal ((c : Thread nD τ), .dma locS2) 0 ∗ Owe c (rcvO c 0)) -∗ _)) (sep_elim_right.trans wand_elim_left)))
  isplitr; · iexact HI
  isplitr [Hsig]
  swap; · iexact Hsig
  isplitr [Hlab HfX]
  swap
  · isplitr; · iexact Hlev
    isplitl [Hlab]; · iexact Hlab
    iexact HfX
  iintro ⟨Hlab, Hx, HaX, Hs2, HO⟩
  -- the logits and the two rows
  iapply (WP_bind c (part4_spec X Wv lab c (vCol c)
    (R := iprop((xPts X c ∗ anyW c ∗ argW Wv c ∗ semVal ((c : Thread nD τ), .dma locS0) 0 ∗ semVal ((c : Thread nD τ), .dma locS1) 0 ∗ Owe c (rcvO c 0)) -∗ _)) wand_elim_left))
  isplitr [Hx HrW HfW HO]
  swap
  · isplitr; · iexact Hlev
    isplitl [Hx]; · iexact Hx
    isplitl [HrW]; · iexact HrW
    isplitl [HfW]; · iexact HfW
    iexact HO
  iintro ⟨Hx, HW, HaW, Hs0, Hs1, HO⟩
  -- the stores of the rows
  iapply (WP_bind c (part5_spec K X Wv lab c
    (R := iprop((rowsPts c fullShare (st X Wv lab c) ∗ ownSt (st X Wv lab) c 7) -∗ _)) (sep_elim_right.trans (sep_assoc.1.trans wand_elim_left))))
  isplitr; · iexact HI
  isplitr [Hslot]
  swap
  · unfold ownSt; rw [if_neg (Nat.not_lt_zero _)]; iexact Hslot
  isplitr [Hrows]
  swap; · iexact Hrows
  iintro ⟨Hrows, Hslot⟩
  iapply (WP_bind c (part6_spec K X Wv lab c
    (R := iprop((ownSt (st X Wv lab) c 16 ∗ barB c) -∗ _)) (sep_elim_right.trans (sep_assoc.1.trans wand_elim_left))))
  isplitr; · iexact HI
  isplitr [Hslot]
  swap; · iexact Hslot
  isplitr [Hcb Hab HO]
  swap
  · unfold barA
    isplitr; · iexact Hlev
    isplitl [Hcb]; · iexact Hcb
    isplitl [Hab]; · iexact Hab
    iexact HO
  unfold barB
  iintro ⟨Hslot, Hpay, Hsb, HO⟩
  ihave H := (to_send X Wv lab c) $$ [Hrows Hpay Htok HO]
  · isplitl [Hrows]; · iexact Hrows
    isplitl [Hpay]; · iexact Hpay
    isplitl [Htok]; · iexact Htok
    iexact HO
  icases H with ⟨Hkept, Hsend⟩
  -- the sends
  iapply (WP_bind c (part7_spec K X Wv lab c _ _ (R := iprop(sendSt (st X Wv lab) c 10 -∗ _)) (sep_elim_right.trans wand_elim_left)))
  isplitr; · iexact HI
  isplitr [Hsend]
  swap; · iexact Hsend
  iintro Hsend
  -- the receives
  iapply (WP_bind c (part8_spec K X Wv lab c _ _
    (R := iprop((bigSep (Finset.univ.erase c) (sendB c) ∗ recvSt (st X Wv lab) c 4) -∗ _)) (sep_elim_right.trans (sep_assoc.1.trans wand_elim_left))))
  isplitr; · iexact HI
  isplitr [Hsend]
  swap; · iexact Hsend
  isplitr [Hrecv]
  swap
  · iintro HO
    iapply (to_recv X Wv lab c)
    isplitl [Hrecv]; · iexact Hrecv
    iexact HO
  iintro ⟨Hcr, Hrecv⟩
  iapply (WP_bind c (part9_spec K X Wv lab c (R := iprop(recvSt (st X Wv lab) c 14 -∗ _)) (sep_elim_right.trans wand_elim_left)))
  isplitr; · iexact HI
  isplitr [Hrecv]
  swap; · iexact Hrecv
  iintro Hrecv
  -- the result
  iapply (WP_bind c (part10_spec K X Wv lab c (E := bigSep (Finset.univ.erase c) fun j => semVal (rcvC c j) 0)
    (R := bodyRest X Wv lab c) ?tail))
  case tail =>
    iterate 8
      with_reducible refine next_sent (st X Wv lab) K c ?_ ?_ ?_ ?_
      · decide
      · clear hQ; revert c; decide +kernel
      · rfl
    refine WP_pure c ?_
    dsimp only
    iterate 2
      with_reducible refine next_sent (st X Wv lab) K c ?_ ?_ ?_ ?_
      · decide
      · clear hQ; revert c; decide +kernel
      · rfl
    exact WP_pure c ((body_end K X Wv lab c).trans hQ)
  isplitr; · iexact HI
  isplitr [Hrecv]
  swap; · iexact Hrecv
  isplitr [Hout]
  swap; · iexact Hout
  isplitr [Hslot Hcr Hsent]
  · unfold bodyRest locSems
    isplitl [HaX]; · iexact HaX
    isplitl [HaW]; · iexact HaW
    isplitl [Hx]; · iexact Hx
    isplitl [HW]; · iexact HW
    isplitl [Hs0 Hs1 Hs2]
    · isplitl [Hs0]; · iexact Hs0
      isplitl [Hs1]; · iexact Hs1
      iexact Hs2
    isplitl [Hlab]; · iexact Hlab
    isplitl [Hkept]; · iexact Hkept
    iexact Hsb
  · iintro Hrecv
    iapply (to_sent X Wv lab c)
    isplitl [Hslot]; · iexact Hslot
    isplitl [Hcr]; · iexact Hcr
    isplitl [Hsent]; · iexact Hsent
    iexact Hrecv

end Cert.Exchange

end
-- ==== Proof.Funds.lean ====
/-
# What the launch hands out

Every cell of the exchange starts a round; every device's duty tokens are dealt to the devices that pay them; the
credits the devices owe at the launch are read off, cell by cell.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## Sums over the cells of one device -/

theorem bigSep_bool (Φ : Bool → sProp 𝕄) : bigSep Finset.univ Φ = iprop(Φ false ∗ Φ true) :=
  bigSep_univ_eq_bigSepL [false, true] (by decide) (by decide) Φ

theorem bigSep_xfer (Φ : Bool × Dev nD → sProp 𝕄) :
    bigSep Finset.univ Φ = iprop((bigSep Finset.univ fun i => Φ (false, i)) ∗ bigSep Finset.univ fun j => Φ (true, j)) := by
  rw [bigSep_univ_prod, bigSep_bool]

theorem bigSep_cells (Φ : CI → sProp 𝕄) :
    bigSep Finset.univ Φ = iprop((bigSep Finset.univ fun bi => Φ (some bi)) ∗ Φ none) := by
  rw [bigSep_univ_equiv (Equiv.optionEquivSumPUnit.{0, 0} (Bool × Dev nD)).symm, BI.bigSep_univ_sum, bigSep_univ_of_subsingleton PUnit.unit]
  rfl

/-! ## The kernel's own semaphores -/

/-- The three local copies' semaphores, the sixteen send and the sixteen receive semaphores. -/
abbrev osem : Fin 3 ⊕ (Bool × Dev nD) → SemLoc sig
  | .inl 0 => .dma locS0
  | .inl 1 => .dma locS1
  | .inl 2 => .dma locS2
  | .inr bi => csem (some bi)

theorem ownSemFacts : Pipeline.OwnSemFacts cfg0.spec osem := by decide +kernel

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem ownSems0_eq (c : Dev nD) :
    (Pipeline.ownSems0 (Ix := Unit) (Name := ℕ) (U := UU) (Lvl := ℕ) (Val := Elt F) (τ := τ) osem c : sProp 𝕄)
      = iprop(locSems c ∗ (bigSep Finset.univ fun i => semVal (sndC c i) 0) ∗ bigSep Finset.univ fun j => semVal (rcvC c j) 0) := by
  unfold Pipeline.ownSems0
  rw [BI.bigSep_univ_sum, bigSep_xfer, bigSep_fin3]
  rfl

theorem unscopedSems0_eq (c : Dev nD) : (unscopedSems0 c : sProp 𝕄) = semVal (barC c) 0 := by
  unfold unscopedSems0
  rw [bigSep_eq_bigSepL_of_eq [SemLoc.reg barS] (by decide) (by decide)]
  rfl

theorem sems0_eq (c : Dev nD) :
    iprop(Pipeline.ownSems0 (Ix := Unit) (Name := ℕ) (U := UU) (Lvl := ℕ) (Val := Elt F) (τ := τ) osem c ∗ unscopedSems0 c)
      ⊢ (iprop(locSems c ∗ bigSep Finset.univ fun k : CI => semVal (kcell (c, k)) 0) : sProp 𝕄) := by
  rw [ownSems0_eq, unscopedSems0_eq, bigSep_cells, bigSep_xfer]
  iintro ⟨⟨Hl, Hs, Hr⟩, Hb⟩
  isplitl [Hl]; · iexact Hl
  isplitr [Hb]
  · isplitl [Hs]; · iexact Hs
    iexact Hr
  iexact Hb

/-! ## Funding the cells -/

def exCells : Finset (GSem nD τ sig) := Finset.univ.map ⟨kcell, kcell_injective⟩

/-- The cell and the payer of a duty: device `x.1`'s barrier cell paid by `x.2.2`, its send cell and its receive cell named by `x.2.2`. -/
abbrev tokOf (x : Dev nD × Fin 3 × Dev nD) : GSem nD τ sig × ℕ × Dev nD := match x.2.1 with
  | 0 => (barC x.1, 0, x.2.2)
  | 1 => (sndC x.1 x.2.2, 0, x.2.2)
  | 2 => (rcvC x.1 x.2.2, 0, x.2.2)

def tokCell : Fin 3 × Dev nD → CI
  | (0, _) => none
  | (1, i) => some (false, i)
  | (2, j) => some (true, j)

theorem tokOf_eq (x : Dev nD × Fin 3 × Dev nD) : tokOf x = (kcell (x.1, tokCell x.2), 0, x.2.2) := by
  obtain ⟨c, a, i⟩ := x
  fin_cases a <;> rfl

theorem tokOf_injective : Function.Injective tokOf := by
  intro x y h
  rw [tokOf_eq, tokOf_eq] at h
  have h1 := kcell_injective (congrArg Prod.fst h)
  have h2 : x.2.2 = y.2.2 := congrArg (fun z : GSem nD τ sig × ℕ × Dev nD => z.2.2) h
  obtain ⟨c, a, i⟩ := x
  obtain ⟨c', a', i'⟩ := y
  have h3 : c = c' := congrArg Prod.fst h1
  have h4 : tokCell (a, i) = tokCell (a', i') := congrArg Prod.snd h1
  dsimp only at h2
  subst h2 h3
  have : a = a' := by
    fin_cases a <;> fin_cases a' <;> first | rfl | (exfalso; simp [tokCell] at h4)
  subst this
  rfl

def exToks : Finset (GSem nD τ sig × ℕ × Dev nD) := Finset.univ.map ⟨tokOf, tokOf_injective⟩

def u₀ : UU := (initOf (Pipeline.cells cfgs cellOf_inj) (Pipeline.launchToks cfgs cellOf_inj), (initOf exCells exToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells, -/
def toks (c : Dev nD) : sProp 𝕄 :=
  iprop((bigSep Finset.univ fun j => dutyTok ER (barC c) 0 j) ∗ (bigSep Finset.univ fun i => dutyTok ER (sndC c i) 0 i)
    ∗ bigSep Finset.univ fun j => dutyTok ER (rcvC c j) 0 j)
/-- and of the duties device `c` pays. -/
def payToks (c : Dev nD) : sProp 𝕄 :=
  iprop((bigSep Finset.univ fun i => dutyTok ER (barC i) 0 c) ∗ (bigSep Finset.univ fun i => dutyTok ER (sndC c i) 0 i)
    ∗ bigSep Finset.univ fun i => dutyTok ER (rcvC i c) 0 c)

theorem bigSep_turn (Φ : Dev nD → Dev nD → sProp 𝕄) :
    (bigSep Finset.univ fun c => bigSep Finset.univ fun j => Φ c j) = bigSep Finset.univ fun j => bigSep Finset.univ fun c => Φ c j := by
  rw [← bigSep_univ_prod (fun p : Dev nD × Dev nD => Φ p.1 p.2), bigSep_univ_equiv (Equiv.prodComm (Dev nD) (Dev nD)), bigSep_univ_prod]
  rfl

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_turn (fun c j : Dev nD => (dutyTok ER (barC c) 0 j : sProp 𝕄)),
    bigSep_turn (fun c j : Dev nD => (dutyTok ER (rcvC c j) 0 j : sProp 𝕄))]

variable (st : Dev nD → S2x512.Idx → F .f32)

def G (c : Dev nD) : sProp 𝕄 :=
  iprop((bigSep Finset.univ fun k : CI => roundState ER (exRd st) (kcell (c, k)) 0)
    ∗ (bigSep Finset.univ fun k : CI => iprop(atPos ER (kcell (c, k)) 0 ∅ 0 ∗ reached ER (kcell (c, k)) 0)) ∗ toks c)

/-- What stays with device `c`: its positions, the tokens of the duties it pays, its local copies' semaphores. -/
def linear (c : Dev nD) : sProp 𝕄 :=
  iprop((bigSep Finset.univ fun k : CI => atPos ER (kcell (c, k)) 0 ∅ 0) ∗ payToks c ∗ locSems c)
def G' (c : Dev nD) : sProp 𝕄 := iprop(∃ K, invs st K ∗ linear c)

theorem fund_cells : BI.own (ER (initOf exCells exToks)) ⊢ (|==> bigSep Finset.univ (G st) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_prod, bigSep_fin3]; rfl
  iintro HX
  imod (Rounds.fund ER (exRd st) exCells exToks) $$ HX with ⟨Hst, Hr, Hat, Htok⟩
  imodintro
  ihave Hst' := (Entails.of_eq (hX fun g => roundState ER (exRd st) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G st c)
      ⊢ |={Set.univ}=> iprop((bigSep Finset.univ fun k => iprop(∃ κ : ℕ, cellInv ER (exRd st) κ (kcell (c, k))))
          ∗ (bigSep Finset.univ fun k => reached ER (kcell (c, k)) 0)
          ∗ (bigSep Finset.univ fun k => atPos ER (kcell (c, k)) 0 ∅ 0) ∗ toks c ∗ locSems c) := by
  unfold G
  iintro ⟨Hos, Hus, Hst, Hat, Htok⟩
  ihave Hv := (sems0_eq (F := F) c) $$ [Hos Hus]
  · isplitl [Hos] <;> iassumption
  icases Hv with ⟨Hl, Hv⟩
  imod (show iprop((bigSep Finset.univ fun k : CI => semVal (kcell (c, k)) 0) ∗ bigSep Finset.univ fun k : CI => roundState ER (exRd st) (kcell (c, k)) 0)
      ⊢ (|={Set.univ}=> bigSep Finset.univ fun k => iprop(∃ κ : ℕ, cellInv ER (exRd st) κ (kcell (c, k))) : sProp 𝕄) from by
        rw [← bigSep_sep']
        exact (bigSep_mono fun k _ => (Rounds.body_intro ER (exRd st) (kcell (c, k))).trans inv_alloc).trans (bigSep_fupd _ _)) $$ [Hv Hst] with Hinv
  · isplitl [Hv] <;> iassumption
  imodintro
  ihave Hat := (Entails.of_eq (bigSep_sep' Finset.univ (fun k : CI => (atPos ER (kcell (c, k)) 0 ∅ 0 : sProp 𝕄)) (fun k => reached ER (kcell (c, k)) 0))) $$ Hat
  icases Hat with ⟨Hat, Hr⟩
  isplitl [Hinv]; · iexact Hinv
  isplitl [Hr]; · iexact Hr
  isplitl [Hat]; · iexact Hat
  isplitl [Htok] <;> iassumption

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd st) κ (kcell (c, k))))
          ∗ (bigSep Finset.univ fun k => reached ER (kcell (c, k)) 0)
          ∗ (bigSep Finset.univ fun k => atPos ER (kcell (c, k)) 0 ∅ 0) ∗ toks c ∗ locSems c) : sProp 𝕄)
      ⊢ bigSep Finset.univ (G' st) := by
  rw [bigSep_sep', bigSep_sep', bigSep_sep', bigSep_sep', ← bigSep_univ_prod (fun ck : Dev nD × CI => iprop(∃ κ : ℕ, cellInv ER (exRd st) κ (kcell ck))),
    ← bigSep_univ_prod (fun ck : Dev nD × CI => (reached ER (kcell ck) 0 : sProp 𝕄))]
  iintro ⟨HI, #HR, Hat, Htok, Hl⟩
  ihave HK := (BI.bigSep_exists_pi Finset.univ (fun (ck : Dev nD × CI) (κ : ℕ) => (cellInv ER (exRd st) κ (kcell ck) : sProp 𝕄))) $$ HI
  icases HK with ⟨%K, #HI⟩
  ihave Htk := (toks_around (F := F)) $$ Htok
  iapply (share_out (R := invs st K) (Φ := linear) fun c _ => show iprop(invs st K ∗ linear c) ⊢ G' st c from exists_intro (Φ := fun K => iprop(invs st K ∗ linear c)) K)
  isplitr
  · unfold invs; rw [bigSep_sep']
    isplitl; · iexact HI
    iexact HR
  · unfold linear; rw [bigSep_sep', bigSep_sep']
    isplitl [Hat]; · iexact Hat
    isplitl [Htk]; · iexact Htk
    iexact Hl

theorem glob : (bigSep Finset.univ fun c => iprop(Pipeline.ownSems0 (Ix := Unit) (Name := ℕ) (U := UU) (Lvl := ℕ) (Val := Elt F) (τ := τ) osem c ∗ unscopedSems0 c ∗ G st c) : sProp 𝕄)
    ⊢ |={Set.univ}=> bigSep Finset.univ (G' st) :=
  ((bigSep_mono fun c _ => core_alloc st c).trans (bigSep_fupd _ _)).trans (BI.fupd_mono (regroup st))

/-! ## The credits owed at the launch -/

theorem tally_at {f : Dev nD → GSem nD τ sig} (hf : Function.Injective f) (s : Finset (Dev nD)) (k : ℕ) (c : Dev nD) :
    (∑ i ∈ s, tallyAt (Ix := Unit) (f i) () k : CellTallies nD τ sig Unit) (f c) () = if c ∈ s then k else 0 := by
  rw [Finset.sum_apply, Finsupp.finset_sum_apply, Finset.sum_congr rfl fun i _ => tallyAt_apply ..]
  rw [← Finset.sum_ite_eq s c fun _ => k]
  refine Finset.sum_congr rfl fun i _ => ?_
  by_cases h : c = i
  · subst h; rw [if_pos ⟨rfl, rfl⟩, if_pos rfl]
  · rw [if_neg fun h' => h (hf h'.1), if_neg h]

theorem tally_off {f : Dev nD → GSem nD τ sig} (s : Finset (Dev nD)) (k : ℕ) {g : GSem nD τ sig} (h : ∀ i, g ≠ f i) :
    (∑ i ∈ s, tallyAt (Ix := Unit) (f i) () k : CellTallies nD τ sig Unit) g () = 0 :=
  Nat.eq_zero_of_not_pos fun h' => let ⟨i, e⟩ := sum_tally_pos (f := f) h'; h i e

theorem bar_injective : Function.Injective barC := fun a b h => congrArg Prod.fst (kcell_injective (a₁ := (a, none)) (a₂ := (b, none)) h)
theorem rcv_injective (d : Dev nD) : Function.Injective fun i => rcvC i d :=
  fun a b h => congrArg Prod.fst (kcell_injective (a₁ := (a, some (true, d))) (a₂ := (b, some (true, d))) h)
theorem bar_ne_rcv (a b d : Dev nD) : barC a ≠ rcvC b d := fun h => by
  cases congrArg Prod.snd (kcell_injective (a₁ := (a, none)) (a₂ := (b, some (true, d))) h)

theorem owed_bar (d c : Dev nD) : O₀ d (barC c) () = if c = d then 0 else 1 := by
  unfold O₀ rcvO barO
  rw [Pi.add_apply, Finsupp.add_apply, tally_off _ _ (fun i => bar_ne_rcv c i d), tally_at bar_injective, todo_zero, zero_add]
  by_cases h : c = d
  · rw [if_neg (by simp [h]), if_pos h]
  · rw [if_pos (by simp [h]), if_neg h]

theorem owed_rcv (d c j : Dev nD) (hj : j ≠ c) : O₀ d (rcvC c j) () = if j = d then N else 0 := by
  unfold O₀ rcvO barO
  rw [Pi.add_apply, Finsupp.add_apply, tally_off (f := barC) _ _ (fun i h => bar_ne_rcv i c j h.symm), add_zero]
  by_cases h : j = d
  · subst h
    rw [tally_at (rcv_injective j), todo_zero, if_pos (by simp [hj.symm]), if_pos rfl]
  · rw [if_neg h]
    refine tally_off _ _ fun i h' => h ?_
    have := congrArg Prod.snd (kcell_injective (a₁ := (c, some (true, j))) (a₂ := (i, some (true, d))) h')
    exact congrArg Prod.snd (Option.some.inj this)

theorem launch_bar (c : Dev nD) :
    tallyOn (barC c) (launchCredit (Pipeline.owing O₀) 0 (barC c)) = (tallyAt (barC c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_rcv (c j : Dev nD) (hj : j ≠ c) :
    tallyOn (rcvC c j) (launchCredit (Pipeline.owing O₀) 0 (rcvC c j)) = (tallyAt (rcvC c j) () N : CellTallies nD τ sig Unit) := by
  unfold tallyAt; refine congrArg _ (Finsupp.ext fun u => ?_); cases u
  rw [Pipeline.launchCredit_owing, Finsupp.single_eq_same, Finset.sum_congr rfl fun d _ => owed_rcv d c j hj,
    Finset.sum_ite_eq Finset.univ j fun _ => N, if_pos (Finset.mem_univ _)]

theorem creds (c : Dev nD) :
    (Pipeline.launchCred O₀ c : sProp 𝕄) ⊢ iprop(cred (tallyAt (barC c) () 15) ∗ bigSep (Finset.univ.erase c) fun j => cred (tallyAt (rcvC c j) () N)) := by
  unfold Pipeline.launchCred
  refine (BI.bigSep_subset (Finset.subset_univ (Finset.univ.map ⟨csem, csem_injective⟩))).trans ?_
  rw [bigSep_map, bigSep_cells, bigSep_xfer]
  show (iprop(((bigSep Finset.univ fun i : Dev nD => cred (tallyOn (sndC c i) (launchCredit (Pipeline.owing O₀) 0 (sndC c i))))
      ∗ bigSep Finset.univ fun j : Dev nD => cred (tallyOn (rcvC c j) (launchCredit (Pipeline.owing O₀) 0 (rcvC c j))))
      ∗ cred (tallyOn (barC c) (launchCredit (Pipeline.owing O₀) 0 (barC c)))) : sProp 𝕄)
    ⊢ iprop(cred (tallyAt (barC c) () 15) ∗ bigSep (Finset.univ.erase c) fun j => cred (tallyAt (rcvC c j) () N))
  iintro ⟨⟨-, Hr⟩, Hb⟩
  isplitl [Hb]
  · iapply (Entails.of_eq (congrArg (fun t => (cred t : sProp 𝕄)) (launch_bar c))); iexact Hb
  · have h : (bigSep Finset.univ fun j : Dev nD => cred (tallyOn (rcvC c j) (launchCredit (Pipeline.owing O₀) 0 (rcvC c j))) : sProp 𝕄)
        ⊢ bigSep (Finset.univ.erase c) fun j => cred (tallyAt (rcvC c j) () N) :=
      (BI.bigSep_subset (Finset.subset_univ (Finset.univ.erase c))).trans
        (bigSep_mono fun j hj => Entails.of_eq (congrArg (fun t => (cred t : sProp 𝕄)) (launch_rcv c j (Finset.mem_erase.mp hj).1)))
    iapply h
    iexact Hr

end Cert.Exchange

end
-- ==== Proof.Launch.lean ====
/-
# The launch and its run

Every device enters its body with what `Funds` deals it; at the end its result array holds the device's result, its
arguments are as they were, and every semaphore is at zero.
-/
module

public import proofs.«01_k».proof.Proof.Funds
public import proofs.«01_k».proof.Proof.Gen.KernelIdeal.Points
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The devices' activations, weights and staged labels. -/
def mX (c : Dev nD) : Vec F S512x1024 .f32 := m ((c : Thread nD τ).loc main_arg0)
def mW (c : Dev nD) : Vec F S1024x8192 .f32 := m ((c : Thread nD τ).loc main_arg1)
def mLab (c : Dev nD) : Vec F S512 .i32 := (win0_0.blk (t0_0 : Fin cfg0.N)).view.read (Elt F) (m ((c : Thread nD τ).loc main_arg2))

/-- Every device's pair of rows, and the result. -/
abbrev mSt : Dev nD → S2x512.Idx → F .f32 := st (mX m) (mW m) (mLab m)
def mOut : Vec F S512 .f32 := k0_pay44 (gat (mSt m))

/-- What device `c` holds when its body starts, apart from the scratch buffers. -/
def start (c : Dev nD) : sProp 𝕄 :=
  iprop(G' (mSt m) c ∗ argX (mX m) c ∗ argW (mW m) c
    ∗ (cred (tallyAt (barC c) () 15) ∗ bigSep (Finset.univ.erase c) fun j => cred (tallyAt (rcvC c j) () N)) ∗ levAts L lv)

def scratch (c : Dev nD) : sProp 𝕄 :=
  iprop(anyX c ∗ anyW c ∗ anyRows c ∗ ∃ f : S16x2x512.Idx → F .f32, gatherLoc c ↦{fullShare} (f : Buf (Elt F) (gatherLoc c)))

def Φ₀ (c : Dev nD) : sProp 𝕄 := iprop(start m c ∗ scratch c)
def Φ₁ (c : Dev nD) : sProp 𝕄 :=
  iprop(scratch c ∗ (locSems c ∗ (bigSep Finset.univ fun i => semVal (sndC c i) 0) ∗ bigSep Finset.univ fun j => semVal (rcvC c j) 0)
    ∗ semVal (barC c) 0 ∗ argX (mX m) c ∗ argW (mW m) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => mLab m c
    | ⟨1, _⟩ => mOut m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body from what the launch hands it -/

/-- The two cells of a device named by itself, closed: no duty was ever theirs. -/
theorem close_own (K : Dev nD × CI → ℕ) (c : Dev nD) :
    iprop(invs (mSt m) K ∗ atPos ER (sndC c c) 0 ∅ 0 ∗ atPos ER (rcvC c c) 0 ∅ 0)
      ⊢ (|={Set.univ}=> iprop(semVal (sndC c c) 0 ∗ semVal (rcvC c c) 0) : sProp 𝕄) := by
  iintro ⟨#HI, Hs, Hr⟩
  ihave H1 := (invs_at (mSt m) K (c, some (false, c))) $$ HI
  ihave H2 := (invs_at (mSt m) K (c, some (true, c))) $$ HI
  icases H1 with ⟨H1, -⟩
  icases H2 with ⟨H2, -⟩
  imod (Rounds.cell_close ER (exRd (mSt m)) (Set.mem_univ (K (c, some (false, c)))) (fun h => h) (R := 0) (duties_own (mSt m) c false)) $$ [H1 Hs] with Hs
  · isplitr; · iexact H1
    iexact Hs
  imod (Rounds.cell_close ER (exRd (mSt m)) (Set.mem_univ (K (c, some (true, c)))) (fun h => h) (R := 0) (duties_own (mSt m) c true)) $$ [H2 Hr] with Hr
  · isplitr; · iexact H2
    iexact Hr
  imodintro
  isplitl [Hs]; · iexact Hs
  iexact Hr

theorem places (c : Dev nD) :
    (bigSep Finset.univ fun k : CI => (atPos ER (kcell (c, k)) 0 ∅ 0 : sProp 𝕄))
      = iprop(((bigSep Finset.univ fun i => atPos ER (sndC c i) 0 ∅ 0) ∗ bigSep Finset.univ fun j => atPos ER (rcvC c j) 0 ∅ 0)
        ∗ atPos ER (barC c) 0 ∅ 0) := by
  rw [bigSep_cells, bigSep_xfer]
  rfl

/-- What the launch deals, sorted into what the body starts from. -/
theorem enter (c : Dev nD) :
    iprop(linear c ∗ argX (mX m) c ∗ argW (mW m) c
      ∗ (cred (tallyAt (barC c) () 15) ∗ bigSep (Finset.univ.erase c) fun j => cred (tallyAt (rcvC c j) () N)) ∗ levAts L lv ∗ scratch c ∗ Owe c (O₀ c)
      ∗ labPts (mLab m) c ∗ anyOut c)
      ⊢ (iprop(bodyPre (mX m) (mW m) (mLab m) c ∗ atPos ER (sndC c c) 0 ∅ 0 ∗ atPos ER (rcvC c c) 0 ∅ 0) : sProp 𝕄) := by
  unfold linear payToks scratch bodyPre idle sigSt
  rw [places]
  iintro ⟨⟨⟨⟨Has, Har⟩, Hab⟩, ⟨Htb, Hts, Htr⟩, Hl⟩, HaX, HaW, ⟨Hcb, Hcr⟩, #Hlev, ⟨HX, HW, Hrows, %f, Hg⟩, HO, Hlab, Hout⟩
  ihave Has := (Entails.of_eq (bigSep_own c fun i => (atPos ER (sndC c i) 0 ∅ 0 : sProp 𝕄))) $$ Has
  icases Has with ⟨Has0, Has⟩
  ihave Har := (Entails.of_eq (bigSep_own c fun i => (atPos ER (rcvC c i) 0 ∅ 0 : sProp 𝕄))) $$ Har
  icases Har with ⟨Har0, Har⟩
  ihave Htb := (Entails.of_eq (bigSep_own c fun i => (dutyTok ER (barC i) 0 c : sProp 𝕄))) $$ Htb
  icases Htb with ⟨-, Htb⟩
  ihave Hts := (Entails.of_eq (bigSep_own c fun i => (dutyTok ER (sndC c i) 0 i : sProp 𝕄))) $$ Hts
  icases Hts with ⟨-, Hts⟩
  ihave Htr := (Entails.of_eq (bigSep_own c fun i => (dutyTok ER (rcvC i c) 0 c : sProp 𝕄))) $$ Htr
  icases Htr with ⟨-, Htr⟩
  ihave Hg := (Entails.of_eq ((gather_split c f).trans (bigSep_own c fun i => slotPts c i f))) $$ Hg
  icases Hg with ⟨Hg0, Hg⟩
  isplitr [Has0 Har0]
  · isplitr; · iexact Hlev
    isplitl [HaX HaW HX HW Hl]
    · isplitl [HaX]; · iexact HaX
      isplitl [HaW]; · iexact HaW
      isplitl [HX]; · iexact HX
      isplitl [HW]; · iexact HW
      iexact Hl
    isplitl [Hlab]; · iexact Hlab
    isplitl [Hrows]; · iexact Hrows
    isplitl [Hg0]; · iexists f; iexact Hg0
    isplitl [Htb Hg HO]
    · isplitl [Htb Hg]
      · iapply (walk_start c _ _)
        have e : (bigSep (Finset.univ.erase c) fun i => (iprop(dutyTok ER (barC i) 0 c ∗ slotPts c i f) : sProp 𝕄)) ⊢ bigSep (Finset.univ.erase c) (sigA c) :=
          bigSep_mono fun i _ => sep_mono_right (exists_intro (Φ := fun f => slotPts c i f) f)
        iapply e
        iapply (Entails.of_eq (bigSep_pair _ _ _).symm)
        isplitl [Htb]; · iexact Htb
        iexact Hg
      · iexact HO
    isplitl [Hcb Hab]
    · isplitl [Hcb]; · iexact Hcb
      iexact Hab
    isplitl [Hts Htr]
    · have e : bigSep (Finset.univ.erase c) (sndTok c)
          = (iprop((bigSep (Finset.univ.erase c) fun i => dutyTok ER (sndC c i) 0 i) ∗ bigSep (Finset.univ.erase c) fun i => dutyTok ER (rcvC i c) 0 c) : sProp 𝕄) := by
        rw [← bigSep_pair]; rfl
      iapply (Entails.of_eq e.symm)
      isplitl [Hts]; · iexact Hts
      iexact Htr
    isplitl [Hcr Har]
    · have e : bigSep (Finset.univ.erase c) (recvA c)
          = (iprop((bigSep (Finset.univ.erase c) fun j => cred (tallyAt (rcvC c j) () N)) ∗ bigSep (Finset.univ.erase c) fun j => atPos ER (rcvC c j) 0 ∅ 0) : sProp 𝕄) := by
        rw [← bigSep_pair]; rfl
      iapply (Entails.of_eq e.symm)
      isplitl [Hcr]; · iexact Hcr
      iexact Har
    isplitl [Has]; · iexact Has
    iexact Hout
  · isplitl [Has0]; · iexact Has0
    iexact Har0

/-- What the body leaves, sorted into what the launch takes back. -/
theorem leave (c : Dev nD) :
    iprop(bodyPost (mX m) (mW m) (mLab m) c ∗ semVal (sndC c c) 0 ∗ semVal (rcvC c c) 0)
      ⊢ (iprop(Φ₁ m c ∗ Owe c 0 ∗ labPts (mLab m) c ∗ outPts (mX m) (mW m) (mLab m) c) : sProp 𝕄) := by
  unfold bodyPost Φ₁ scratch
  iintro ⟨⟨HaX, HaW, Hx, HW, Hl, Hlab, Hrows, Hg, Hout, Hb, Hr, Hs, HO⟩, Hs0, Hr0⟩
  isplitr [HO Hlab Hout]
  · isplitl [Hx HW Hrows Hg]
    · isplitl [Hx]; · unfold anyX; iexists (mX m c); unfold xPts; iexact Hx
      isplitl [HW]; · iexact HW
      isplitl [Hrows]; · unfold anyRows; iexists (mSt m c); iexact Hrows
      iexists (gat (mSt m)); unfold gathered; iexact Hg
    isplitl [Hl Hr Hs Hs0 Hr0]
    · isplitl [Hl]; · iexact Hl
      isplitl [Hs Hs0]
      · iapply (Entails.of_eq (bigSep_own c fun i => (semVal (sndC c i) 0 : sProp 𝕄)).symm)
        isplitl [Hs0]; · iexact Hs0
        iexact Hs
      · iapply (Entails.of_eq (bigSep_own c fun i => (semVal (rcvC c i) 0 : sProp 𝕄)).symm)
        isplitl [Hr0]; · iexact Hr0
        iexact Hr
    isplitl [Hb]; · iexact Hb
    isplitl [HaX]; · iexact HaX
    iexact HaW
  · isplitl [HO]; · iexact HO
    isplitl [Hlab]; · iexact Hlab
    iexact Hout

abbrev theBody : PR F PUnit :=
  cc0_body aX (Memref.isWhole_whole _) aW (Memref.isWhole_whole _) lM (Memref.isWhole_whole _) oM (Memref.isWhole_whole _)
          xM (Memref.isWhole_whole _) wM (Memref.isWhole_whole _) sM (Memref.isWhole_whole _) gM (Memref.isWhole_whole _)
          cc0_scratch4 cc0_scratch5 cc0_scratch6

theorem sound (K : Dev nD × CI → ℕ) (c : Dev nD) {R : sProp 𝕄} {Q : PUnit → sProp 𝕄} (hQ : iprop(bodyPost (mX m) (mW m) (mLab m) c ∗ R) ⊢ Q ⟨⟩) :
    iprop((invs (mSt m) K ∗ bodyPre (mX m) (mW m) (mLab m) c) ∗ R) ⊢ WP c theBody Q :=
  (sep_mono_left (body_spec K (mX m) (mW m) (mLab m) c (Q := fun _ => bodyPost (mX m) (mW m) (mLab m) c) .rfl)).trans
    ((wp_frame_r _ _ _).trans (wp_mono _ _ _ fun _ => hQ))

def obPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 2) t0_0 d))
    ∗ (∃ d, stg c cc0_stg1_0 ((dats m ρ 0 c).before (1 : Fin 2) t0_0 d)))
def obPost (c : Dev nD) : sProp 𝕄 :=
  iprop(Φ₁ m c ∗ (dats m ρ 0 c).owesAt () (t0_0 : Fin cfg0.N).succ ∗ stg c cc0_stg0_0 (mLab m c) ∗ stg c cc0_stg1_0 (mOut m))

theorem ob_close (c : Dev nD) :
    iprop(bodyPost (mX m) (mW m) (mLab m) c ∗ semVal (sndC c c) 0 ∗ semVal (rcvC c c) 0) ⊢ obPost m ρ c := by
  refine (leave m c).trans ?_
  unfold obPost Dat.owesAt Pipeline.owesWithin Owe labPts outPts
  rw [show (dats m ρ 0 c).owed (t0_0 : Fin cfg0.N).succ = 0 from rfl]
  iintro ⟨HΦ, ⟨%W, HO⟩, Hlab, Hout⟩
  isplitl [HΦ]; · iexact HΦ
  isplitl [HO]
  · iexists W
    isplitr; · ipureintro; exact fun _ _ => Or.inl trivial
    iexact HO
  isplitl [Hlab]
  · iexists _; isplitr; · (ipureintro; rfl)
    iexact Hlab
  iexists _; isplitr; · (ipureintro; rfl)
  iexact Hout

theorem before_lab (c : Dev nD) (d) : (dats m ρ 0 c).before (0 : Fin 2) t0_0 d = mLab m c := by
  unfold Dat.before
  rw [if_pos (fetch0_0 t0_0)]
  rfl

theorem obligation (c : Dev nD) : obPre m ρ c ⊢ WP c theBody (fun _ => obPost m ρ c) := by
  unfold obPre Φ₀ start G'
  iintro ⟨⟨⟨⟨%K, #HI, Hlin⟩, HaX, HaW, Hcr, Hlev⟩, Hscr⟩, Ho, ⟨%d0, %g0, %hg0, Hlab⟩, ⟨%d1, %g1, %hg1, Hout⟩⟩
  rw [before_lab] at hg0
  subst hg0
  unfold Dat.owesAt Pipeline.owesWithin
  icases Ho with ⟨%W, %hW, HO⟩
  ihave H := (enter m c) $$ [Hlin HaX HaW Hcr Hlev Hscr HO Hlab Hout]
  · isplitl [Hlin]; · iexact Hlin
    isplitl [HaX]; · iexact HaX
    isplitl [HaW]; · iexact HaW
    isplitl [Hcr]; · iexact Hcr
    isplitl [Hlev]; · iexact Hlev
    isplitl [Hscr]; · iexact Hscr
    isplitl [HO]; · unfold Owe; iexists W; iexact HO
    isplitl [Hlab]; · unfold labPts; iexact Hlab
    unfold anyOut; iexists g1; iexact Hout
  icases H with ⟨Hpre, Hs, Hr⟩
  imod (close_own m K c) $$ [Hs Hr] with ⟨Hs, Hr⟩
  · isplitr; · iexact HI
    isplitl [Hs] <;> iassumption
  iapply (sound m K c (Q := fun _ => obPost m ρ c) (ob_close m ρ c))
  isplitl [Hpre]
  · isplitr; · iexact HI
    iexact Hpre
  · isplitl [Hs] <;> iassumption

set_option maxRecDepth 4000 in
set_option maxHeartbeats 2000000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show obPre m ρ c ⊢ wp frame (wpE (defs₀ (F := F)) 𝒱₀ c none) Set.univ
    (cc0_body (Memref.whole main_arg0) (Memref.isWhole_whole _) (Memref.whole main_arg1) (Memref.isWhole_whole _) (Memref.whole cc0_stg0_0) (Memref.isWhole_whole _)
      (Memref.whole cc0_stg1_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4 cc0_scratch5 cc0_scratch6)
    (fun _ => obPost m ρ c)
  exact obligation m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (mSt m) c)
      ⊢ |={Set.univ}=> iprop(start m c ∗ emp) := by
  rw [Pipeline.unscopedRestP_none, unscopedRest0_eq]
  iintro ⟨⟨HX, HW⟩, Hlev, Hcr, -, HG⟩
  ihave Hc := (creds (F := F) c) $$ Hcr
  imodintro
  unfold start argX argW
  isplitl
  · isplitl [HG]; · iexact HG
    isplitl [HX]; · iexact HX
    isplitl [HW]; · iexact HW
    isplitl [Hc]; · iexact Hc
    iexact Hlev
  · iempintro

theorem scratch_eq (c : Dev nD) : (Pipeline.scopedRest cfg0.spec c : sProp 𝕄) ⊣⊢ scratch c := by
  rw [scopedRest0_eq]
  unfold scratch anyX anyW anyRows
  constructor
  · iintro ⟨HX, HW, ⟨%f, Hr⟩, Hg⟩
    isplitl [HX]; · iexact HX
    isplitl [HW]; · iexact HW
    isplitl [Hr]
    · iexists f
      iapply (Entails.of_eq (rowsPts_eq c fullShare f).symm)
      iexact Hr
    iexact Hg
  · iintro ⟨HX, HW, ⟨%f, Hr⟩, Hg⟩
    isplitl [HX]; · iexact HX
    isplitl [HW]; · iexact HW
    isplitl [Hr]
    · iexists f
      iapply (Entails.of_eq (rowsPts_eq c fullShare f))
      iexact Hr
    iexact Hg

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_eq c).1; iexact Hr

/-- What a device gives back at the end. -/
def fin (c : Dev nD) : sProp 𝕄 := iprop(unscopedSems0 c ∗ argX (mX m) c ∗ argW (mW m) c)

theorem phi1_exit (c : Dev nD) :
    (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m c from rfl, ownSems0_eq]
  unfold Φ₁ fin
  rw [unscopedSems0_eq]
  iintro ⟨Hr, Hos, Hb, HX, HW⟩
  isplitl [Hb HX HW]
  · isplitl [Hb]; · iexact Hb
    isplitl [HX] <;> iassumption
  isplitl [Hos]; · iexact Hos
  iapply (scratch_eq c).2; iexact Hr

theorem waits (c : Dev nD) : (levAts L lv : sProp 𝕄) ⊢ Pipeline.cellsWaits cfgs (dats m ρ) () 0 c :=
  Pipeline.cellsWaits_intro cfgs (dats m ρ) () 0 c fun w s t =>
    mayWait_zero c _ (by fin_cases w <;> fin_cases s <;> decide +kernel) _ (by
      rcases t with ⟨_ | _, ht⟩
      · exact Or.inl rfl
      · exact Or.inr (Or.inl rfl))

/-! ## The run -/

/-- What a final state says of device `c`. -/
def after (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem fin_read (c : Dev nD) (s' : Phys nD τ sig (Elt F)) :
    iprop(fin m c ∗ emp ∗ SI s') ⊢ (|={Set.univ}=> iprop(⌜after m c s'.mem⌝ ∗ SI s') : sProp 𝕄) := by
  unfold fin argX argW
  iintro ⟨⟨Hu, HX, HW⟩, -, HSI⟩
  ihave %hX := (SI_pointsTo_agree (ℓ := (c : Thread nD τ).loc main_arg0) (I := Finset.univ) (q := fullShare) (f := mX m c)) $$ [HSI HX]
  · isplitl [HSI] <;> iassumption
  ihave %hW := (SI_pointsTo_agree (ℓ := (c : Thread nD τ).loc main_arg1) (I := Finset.univ) (q := fullShare) (f := mW m c)) $$ [HSI HW]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hX i (Finset.mem_univ i), funext fun i => hW i (Finset.mem_univ i)⟩
  iexact HSI

/-- The arrays of the windows after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  (∀ c : Dev nD, (∀ w : Fin cfg0.W, r.2.mem ((cfg0.win w).arr.view.loc (c : Thread nD τ)) = finalA m ρ c w) ∧ after m c r.2) ∧ r.2.sem = fun _ => 0

set_option maxRecDepth 8000 in
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (mSt m)) (G' := G' (mSt m)) (u₀ := u₀)
    (hu₀ := by
      unfold u₀
      iintro Hu
      ihave H := (ownU_split _ _) $$ Hu
      icases H with ⟨HP, HX⟩
      imod (fund_cells (mSt m)) $$ HX with HG
      imodintro
      isplitl [HP] <;> iassumption)
    (hglob := glob (mSt m))
    (hA := fun _ _ => rfl) (hpf := fun _ k => k.elim0)
    (X := start m) (Y := fin m) (Z := fun _ => iprop(emp))
    (hX := start_intro m ρ) (hin := phi0_intro m ρ) (hout := phi1_exit m ρ)
    (QY := after m) (hY := fin_read m)
    (hQ := fun _ h hs => ⟨fun c => ⟨(h c).1, (h c).2.2⟩, sem_eq_zero hs fun c => (h c).2.2.1⟩)

/-- The labels' array is as it was; -/
theorem finalA_lab (c : Dev nD) : finalA m ρ c (0 : Fin 2) = m ((c : Thread nD τ).loc main_arg2) :=
  (dats (F := F) m ρ 0 c).arrAt_in (0 : Fin 2) rfl _

/-- the result array, read by its one block, is the result. -/
theorem finalA_out (c : Dev nD) : (win0_1.blk (t0_0 : Fin cfg0.N)).view.read (Elt F) (finalA m ρ c (1 : Fin 2)) = mOut m := by
  unfold finalA
  rw [show cfg0.N = (t0_0 : Fin cfg0.N).val + 1 from rfl, (dats m ρ 0 c).arrAt_succ (1 : Fin 2) t0_0]
  rw [flush0_1 t0_0, if_pos rfl]
  exact View.read_write_univ _ _

end Cert.Exchange

end
-- ==== Proof.Frames.lean ====
/-
# The frames

The kernel at words, the kernel over the extended reals, and the reference each run to the end, leave their arguments as
they were and every semaphore at zero. The first two are one run: the two printed kernels are the same program.
-/
module

public import proofs.«01_k».proof.Defs
public import proofs.«01_k».proof.Proof.Launch
public import proofs.«01_k».proof.Proof.Gen.Kernel.Skeleton
public import proofs.«01_k».proof.Proof.Gen.ReferenceIdeal.Run
public import Idealize.ShloMosaic.Lib.Claim
public import Idealize.ShloMosaic.Lib.Quiescent

@[expose] public section

noncomputable section

namespace Cert.Exchange

open Idealize.ShloMosaic Idealize.SL.Sem
open Idealize.ShloMosaic.TcCoe

variable {F : FTy → Type} [FloatOps F]

section Ideal

open Cert.KernelIdeal Cert.KernelIdeal.Gen

variable (m : (ℓ : Loc nD τ sig) → Buf (Elt F) ℓ) (ρ : Dev nD → PrngReg)

/-- The kernel runs; its arguments end as they were, every semaphore at zero. -/
theorem kernel_frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  θ_run_mono (run_main m ρ) fun _ h =>
    ⟨fun c => ⟨(h.1 c).2.2.1, (h.1 c).2.2.2, ((h.1 c).1 (0 : Fin 2)).trans (finalA_lab m ρ c)⟩, h.2⟩

end Ideal

set_option maxRecDepth 100000 in
/-- The two printed kernels have the same body table. -/
theorem bodies_same : @Cert.Kernel.defs₀ F _ Cert.Kernel.Gen.facts = @Cert.KernelIdeal.defs₀ F _ Cert.KernelIdeal.Gen.facts :=
  congrArg Defs.onTc (funext fun l => match l with
    | ⟨0, _⟩ => funext fun _ => rfl
    | ⟨_ + 1, h⟩ => absurd h (Nat.not_lt.2 (Nat.le_add_left _ _)))

theorem defs_same : @Cert.Kernel.defs F _ Cert.Kernel.Gen.facts = @Cert.KernelIdeal.defs F _ Cert.KernelIdeal.Gen.facts :=
  congrArg (Pipeline.defs _) bodies_same

/-- The kernel at words: the same run. -/
theorem word_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_same]
  exact kernel_frame (F := F) m ρ

/-- The reference: host operations only. -/
theorem reference_frame (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  θ_run_mono (Cert.ReferenceIdeal.Value.run m ρ) fun r h => ⟨fun c => (h c).2, sem_eq_zero_of_no_sems (by decide) r.2⟩

end Cert.Exchange

end
-- ==== Proof.LogSum.lean ====
module

public import Idealize.ShloMosaic.PureOps.Ideal
public import Mathlib.Analysis.SpecialFunctions.Log.Basic

@[expose] public section

/-!
# Sums of exponentials over the extended reals

The arithmetic the value claim rests on, with no program in it: over finite logits the sums,
exponentials and logarithms of the extended reals are those of the reals, a logarithm of a sum of
exponentials does not change when a number is taken off every logit and put back outside, and a sum
over sixteen devices' two chunks of 512 columns is the sum over the 16384 columns.
-/

namespace Cert.Exchange

open Idealize.ShloMosaic

/-- The extended exponential of a real is the real exponential. -/
theorem exp_real (a : ℝ) : Ideal.exp (a : EReal) = (Real.exp a : EReal) := rfl

/-- The extended logarithm of a positive real is the real logarithm. -/
theorem log_real {a : ℝ} (h : 0 < a) : Ideal.log (a : EReal) = (Real.log a : EReal) := by
  show (if a ≤ 0 then (⊥ : EReal) else (Real.log a : EReal)) = _
  rw [if_neg (not_le.mpr h)]

/-- A finite sum of reals is the same in the extended reals. -/
theorem sum_real {ι : Type*} [Fintype ι] (g : ι → ℝ) : ∑ i, (g i : EReal) = ((∑ i, g i : ℝ) : EReal) :=
  (map_sum (⟨⟨Real.toEReal, EReal.coe_zero⟩, EReal.coe_add⟩ : ℝ →+ EReal) g Finset.univ).symm

/-- A finite sum of products of finite numbers is finite. -/
theorem sum_mul_real {ι : Type*} [Fintype ι] {a b : ι → EReal} (ha : ∀ i, ∃ p : ℝ, a i = p) (hb : ∀ i, ∃ p : ℝ, b i = p) :
    ∃ p : ℝ, ∑ i, a i * b i = p := by
  choose p hp using ha
  choose q hq using hb
  refine ⟨∑ i, p i * q i, ?_⟩
  rw [← sum_real]
  exact Finset.sum_congr rfl fun i _ => by rw [hp, hq, EReal.coe_mul]

/-- The largest of finitely many reals, started from −∞, is a real unless there is none. -/
theorem fold_max_real {ι : Type*} (g : ι → ℝ) (s : Finset ι) :
    s.fold max (⊥ : EReal) (fun i => (g i : EReal)) = ⊥ ∧ s = ∅ ∨ ∃ μ : ℝ, s.fold max (⊥ : EReal) (fun i => (g i : EReal)) = μ := by
  classical
  induction s using Finset.induction_on with
  | empty => exact .inl ⟨rfl, rfl⟩
  | insert a s ha ih =>
    right
    rw [Finset.fold_insert ha]
    rcases ih with ⟨h, -⟩ | ⟨μ, h⟩
    · exact ⟨g a, by rw [h, max_eq_left bot_le]⟩
    · refine ⟨max (g a) μ, ?_⟩
      rw [h]
      rcases le_total (g a) μ with hl | hl
      · rw [max_eq_right hl, max_eq_right (EReal.coe_le_coe_iff.mpr hl)]
      · rw [max_eq_left hl, max_eq_left (EReal.coe_le_coe_iff.mpr hl)]

/-- A sum of exponentials of reals is a positive real. -/
theorem sum_exp_pos {ι : Type*} [Fintype ι] [Nonempty ι] (g : ι → ℝ) : 0 < ∑ i, Real.exp (g i) :=
  Finset.sum_pos (fun i _ => Real.exp_pos (g i)) Finset.univ_nonempty

/-- Taking `μ` off every logit and adding it back after the logarithm changes nothing. -/
theorem logSum_shift {ι : Type*} [Fintype ι] [Nonempty ι] (g : ι → ℝ) (μ : ℝ) :
    μ + Real.log (∑ i, Real.exp (g i - μ)) = Real.log (∑ i, Real.exp (g i)) := by
  have h : ∑ i, Real.exp (g i - μ) = (∑ i, Real.exp (g i)) * Real.exp (-μ) := by
    rw [Finset.sum_mul]
    exact Finset.sum_congr rfl fun i _ => by rw [sub_eq_add_neg, Real.exp_add]
  rw [h, Real.log_mul (sum_exp_pos g).ne' (Real.exp_pos _).ne', Real.log_exp]
  ring

/-- The reference's logarithm of a sum, stabilised by the largest logit, is the plain one. -/
theorem stable_logSum {ι : Type*} [Fintype ι] [Nonempty ι] (l : ι → EReal) (hl : ∀ i, ∃ p : ℝ, l i = p) :
    (Finset.univ : Finset ι).fold max ⊥ l
        + Ideal.log (∑ i, Ideal.exp (l i - (Finset.univ : Finset ι).fold max ⊥ l))
      = Ideal.log (∑ i, Ideal.exp (l i)) := by
  choose g hg using hl
  obtain rfl : l = fun i => (g i : EReal) := funext hg
  rcases fold_max_real g Finset.univ with ⟨-, h⟩ | ⟨μ, h⟩
  · exact absurd h Finset.univ_nonempty.ne_empty
  · rw [h]
    have e₁ : ∑ i, Ideal.exp ((g i : EReal) - (μ : EReal)) = ((∑ i, Real.exp (g i - μ) : ℝ) : EReal) := by
      rw [← sum_real]
      exact Finset.sum_congr rfl fun i _ => by rw [← EReal.coe_sub, exp_real]
    have e₂ : ∑ i, Ideal.exp (g i : EReal) = ((∑ i, Real.exp (g i) : ℝ) : EReal) := by
      rw [← sum_real]
      exact Finset.sum_congr rfl fun i _ => exp_real _
    rw [e₁, e₂, log_real (sum_exp_pos _), log_real (sum_exp_pos _), ← EReal.coe_add, logSum_shift]

/-- The vocabulary column device `c` holds at place `k` of chunk `h`: the mesh's middle axis cuts the
vocabulary in two halves, and a half is cut in eight among the devices that share it. -/
def col (c : Fin 16) (h : Fin 2) (k : Fin 512) : Fin 16384 :=
  ⟨8192 * (c.val / 4 % 2) + 4096 * (c.val / 8) + 1024 * (c.val % 4) + 512 * h.val + k.val, by
    have := c.isLt; have := h.isLt; have := k.isLt; omega⟩

/-- Every column is held exactly once. -/
def colEquiv : (Fin 16 × Fin 2) × Fin 512 ≃ Fin 16384 where
  toFun p := col p.1.1 p.1.2 p.2
  invFun g := ((⟨g.val / 4096 % 2 * 8 + g.val / 8192 * 4 + g.val / 1024 % 4, by have := g.isLt; omega⟩,
    ⟨g.val / 512 % 2, by omega⟩), ⟨g.val % 512, by omega⟩)
  left_inv := by
    rintro ⟨⟨c, h⟩, k⟩
    have hc := c.isLt; have hh := h.isLt; have hk := k.isLt
    have e₁ : (col c h k).val / 8192 = c.val / 4 % 2 := by simp only [col]; omega
    have e₂ : (col c h k).val / 4096 = 2 * (c.val / 4 % 2) + c.val / 8 := by simp only [col]; omega
    have e₃ : (col c h k).val / 1024 = 8 * (c.val / 4 % 2) + 4 * (c.val / 8) + c.val % 4 := by simp only [col]; omega
    have e₄ : (col c h k).val / 512 % 2 = h.val := by simp only [col]; omega
    have e₅ : (col c h k).val % 512 = k.val := by simp only [col]; omega
    refine Prod.ext (Prod.ext (Fin.ext ?_) (Fin.ext e₄)) (Fin.ext e₅)
    show (col c h k).val / 4096 % 2 * 8 + (col c h k).val / 8192 * 4 + (col c h k).val / 1024 % 4 = c.val
    have ha : c.val / 8 < 2 := by omega
    have e₆ : (2 * (c.val / 4 % 2) + c.val / 8) % 2 = c.val / 8 := by
      generalize c.val / 8 = a at ha ⊢
      generalize c.val / 4 % 2 = b
      omega
    have e₇ : (8 * (c.val / 4 % 2) + 4 * (c.val / 8) + c.val % 4) % 4 = c.val % 4 := by
      generalize c.val / 8 = a
      generalize c.val / 4 % 2 = b
      omega
    rw [e₁, e₂, e₃, e₆, e₇]
    omega
  right_inv g := by
    have hg := g.isLt
    obtain ⟨a, ha⟩ : ∃ a, a = g.val / 4096 % 2 := ⟨_, rfl⟩
    obtain ⟨b, hb⟩ : ∃ b, b = g.val / 8192 := ⟨_, rfl⟩
    obtain ⟨z, hz⟩ : ∃ z, z = g.val / 1024 % 4 := ⟨_, rfl⟩
    have e₁ : (a * 8 + b * 4 + z) / 4 % 2 = b := by omega
    have e₂ : (a * 8 + b * 4 + z) / 8 = a := by omega
    have e₃ : (a * 8 + b * 4 + z) % 4 = z := by omega
    refine Fin.ext ?_
    simp only [col]
    rw [← ha, ← hb, ← hz, e₁, e₂, e₃]
    omega

/-- The devices' chunks summed are the columns summed. -/
theorem sum_cols {M : Type*} [AddCommMonoid M] (f : Fin 16384 → M) :
    ∑ c : Fin 16, (∑ k, f (col c 0 k) + ∑ k, f (col c 1 k)) = ∑ g, f g := by
  rw [← Equiv.sum_comp colEquiv f, Fintype.sum_prod_type, Fintype.sum_prod_type]
  refine Finset.sum_congr rfl fun c _ => ?_
  rw [Fin.sum_univ_two]
  rfl

end Cert.Exchange
-- ==== Proof.Chunk.lean ====
/-
# What one device sums

Over the extended reals, entry by entry: the two pieces of the weights a device fetches are columns of the whole weights;
the products with them are logits; the device's first row is the sum of the exponentials of its logits, its second row
the sum of its logits under the labels.
-/
module

public import proofs.«01_k».proof.Proof.Fetch
public import proofs.«01_k».proof.Proof.LogSum
public import Idealize.ShloMosaic.PureOps.Ideal.Laws
public import Idealize.ShloMosaic.Lib.IdealHost
public import Idealize.ShloMosaic.Lib.MatmulPlain
public import Idealize.ShloMosaic.Lib.ValueLayout
public import Idealize.ShloMosaic.Lib.ValueLayoutCasts
public import Idealize.ShloMosaic.Lib.Layout

@[expose] public section

noncomputable section

namespace Cert.Exchange

open Cert.KernelIdeal Cert.KernelIdeal.Gen

open Idealize.ShloMosaic
open Idealize.ShloMosaic.TcCoe
open Idealize.ShloMosaic.ValueIdx

/-- The logit of row `r` at vocabulary column `g`. -/
def lg (x : FVec Ideal ⟨2, ![512, 1024]⟩ .f32) (W : FVec Ideal ⟨2, ![1024, 16384]⟩ .f32) (r : Fin 512) (g : Fin 16384) : EReal :=
  ∑ t : Fin 1024, x (ix2 r t) * W (ix2 t g)

/-- The block of the weights on device `c`. -/
abbrev blkW (W : FVec Ideal ⟨2, ![1024, 16384]⟩ .f32) (c : Dev nD) : FVec Ideal ⟨2, ![1024, 8192]⟩ .f32 :=
  Layout.blockN ⟨2, ![1024, 8192]⟩ ⟨2, ![1024, 16384]⟩ (Layout.meshBlock [2, 2, 4] ![[], [1]] c) W

/-- The block's number is the device's second coordinate. -/
theorem block_number : ∀ c : Fin 16, Layout.meshLin [2, 2, 4] c.val [1] = c.val / 4 % 2 := by decide +kernel

/-- A device's block is half of the columns. -/
theorem blkW_apply (W : FVec Ideal ⟨2, ![1024, 16384]⟩ .f32) (c : Dev nD) (t : Fin 1024) (j : Fin 8192) (g : Fin 16384)
    (hg : g.val = 8192 * (c.val / 4 % 2) + j.val) : blkW W c (ix2 t j) = W (ix2 t g) := by
  refine congrArg W (funext fun a => Fin.ext ?_)
  match a with
  | ⟨0, _⟩ =>
    show 0 * 1024 + t.val = t.val
    omega
  | ⟨1, _⟩ =>
    show Layout.meshLin [2, 2, 4] c.val [1] * 8192 + j.val = g.val
    have h := block_number c
    rw [h, hg]
    omega

/-- The first fetched piece holds the columns of chunk 0. -/
theorem w0_apply (W : FVec Ideal ⟨2, ![1024, 16384]⟩ .f32) (c : Dev nD) (t : Fin 1024) (k : Fin 512) :
    w0 (F := Ideal) (blkW W) c (ix2 t k) = W (ix2 t (col c 0 k)) := by
  have e : ∀ a, k0_off1 c 0#32 a = (![0, 4096 * (c.val / 8) + 1024 * (c.val % 4) + 512 * 0] : Fin 2 → ℕ) a := congrFun (k0_off1_eq c 0)
  have hc : c.val < 16 := c.isLt
  have hk := k.isLt
  have hi : (srcW0 c).view.emb (ix2 t k)
      = (ix2 t (⟨4096 * (c.val / 8) + 1024 * (c.val % 4) + 512 * 0 + k.val, by omega⟩ : Fin 8192) : S1024x8192.Idx) := by
    refine funext fun a => Fin.ext ?_
    match a with
    | ⟨0, _⟩ =>
      show k0_off1 c 0#32 0 + 1 * t.val = t.val
      rw [e 0]
      show 0 + 1 * t.val = t.val
      omega
    | ⟨1, _⟩ =>
      show k0_off1 c 0#32 1 + 1 * k.val = 4096 * (c.val / 8) + 1024 * (c.val % 4) + 512 * 0 + k.val
      rw [e 1]
      show 4096 * (c.val / 8) + 1024 * (c.val % 4) + 512 * 0 + 1 * k.val = _
      omega
  show blkW W c ((srcW0 c).view.emb (ix2 t k)) = _
  rw [hi]
  exact blkW_apply W c t _ _ (by show 8192 * (c.val / 4 % 2) + 4096 * (c.val / 8) + 1024 * (c.val % 4) + 512 * 0 + k.val = _; dsimp only; omega)

/-- The second fetched piece holds the columns of chunk 1. -/
theorem w1_apply (W : FVec Ideal ⟨2, ![1024, 16384]⟩ .f32) (c : Dev nD) (t : Fin 1024) (k : Fin 512) :
    w1 (F := Ideal) (blkW W) c (ix2 t k) = W (ix2 t (col c 1 k)) := by
  have e : ∀ a, k0_off1 c 512#32 a = (![0, 4096 * (c.val / 8) + 1024 * (c.val % 4) + 512 * 1] : Fin 2 → ℕ) a := congrFun (k0_off1_eq c 1)
  have hc : c.val < 16 := c.isLt
  have hk := k.isLt
  have hi : (srcW1 c).view.emb (ix2 t k)
      = (ix2 t (⟨4096 * (c.val / 8) + 1024 * (c.val % 4) + 512 * 1 + k.val, by omega⟩ : Fin 8192) : S1024x8192.Idx) := by
    refine funext fun a => Fin.ext ?_
    match a with
    | ⟨0, _⟩ =>
      show k0_off1 c 512#32 0 + 1 * t.val = t.val
      rw [e 0]
      show 0 + 1 * t.val = t.val
      omega
    | ⟨1, _⟩ =>
      show k0_off1 c 512#32 1 + 1 * k.val = 4096 * (c.val / 8) + 1024 * (c.val % 4) + 512 * 1 + k.val
      rw [e 1]
      show 4096 * (c.val / 8) + 1024 * (c.val % 4) + 512 * 1 + 1 * k.val = _
      omega
  show blkW W c ((srcW1 c).view.emb (ix2 t k)) = _
  rw [hi]
  exact blkW_apply W c t _ _ (by show 8192 * (c.val / 4 % 2) + 4096 * (c.val / 8) + 1024 * (c.val % 4) + 512 * 1 + k.val = _; dsimp only; omega)

/-- A product of the rows with a piece of the weights, at an entry. -/
theorem pay4_apply (x : FVec Ideal S512x1024 .f32) (w : FVec Ideal S1024x512 .f32) (r k : Fin 512) :
    k0_pay4 (F := Ideal) x w (ix2 r k) = ∑ t : Fin 1024, x (ix2 r t) * w (ix2 t k) := by
  have hd : dot_S512x1024_S1024x512_S512x512_1_0_0_1_n_n = DotDims.plain 512 1024 512 := rfl
  have h := Ideal.matmul_plain_apply (φ₁ := .f32) (φ₂ := .f32) none x w (constant (F := Ideal) ⟨2, ![512, 512]⟩ .f32 0x00000000#32) r k
  refine Eq.trans ?_ (h.trans ?_)
  · rw [← hd]
    rfl
  · show Ideal.ofBits .f32 0x00000000#32 + _ = _
    rw [Ideal.ofBits_zero_f32, zero_add]

theorem pay6_eq (x : FVec Ideal S512x1024 .f32) (w : FVec Ideal S1024x512 .f32) :
    k0_pay6 (F := Ideal) x w = k0_pay4 (F := Ideal) x w := rfl

/-- A row's sum over the 512 columns of a chunk. -/
theorem rowSum (v : FVec Ideal S512x512 .f32) (r : Fin 512) :
    multiReduction .add [1] S512 v 0x00000000#32 reduces_S512x512_S512 (.inl rfl) rfl (ix1 r) = ∑ k : Fin 512, v (ix2 r k) := by
  refine (Ideal.multiReduction_add_single v _ _ _ _ _).trans (Finset.sum_congr rfl fun k _ => congrArg v (funext fun a => ?_))
  match a with
  | ⟨0, _⟩ => rfl
  | ⟨1, _⟩ => rfl

/-- The zero the sums start from. -/
theorem zero_word : Scalar.ofBits (F := Ideal) .f32 0x00000000#32 = (0 : EReal) := Ideal.ofBits_zero_f32

/-- A device's first row: the exponentials of its logits, summed. -/
theorem v123_apply (X : Dev nD → FVec Ideal S512x1024 .f32) (W : FVec Ideal ⟨2, ![1024, 16384]⟩ .f32) (c : Dev nD) (r : Fin 512) :
    v123 (F := Ideal) X (blkW W) c (ix1 r)
      = ∑ k, Ideal.exp (lg (X c) W r (col c 0 k)) + ∑ k, Ideal.exp (lg (X c) W r (col c 1 k)) := by
  have h0 : ∀ k : Fin 512, k0_pay4 (F := Ideal) (X c) (w0 (F := Ideal) (blkW W) c) (ix2 r k) = lg (X c) W r (col c 0 k) := fun k => by
    rw [pay4_apply]
    exact Finset.sum_congr rfl fun t _ => by rw [w0_apply]
  have h1 : ∀ k : Fin 512, k0_pay4 (F := Ideal) (X c) (w1 (F := Ideal) (blkW W) c) (ix2 r k) = lg (X c) W r (col c 1 k) := fun k => by
    rw [pay4_apply]
    exact Finset.sum_congr rfl fun t _ => by rw [w1_apply]
  have e0 := rowSum (exp (F := Ideal) (k0_pay4 (F := Ideal) (X c) (w0 (F := Ideal) (blkW W) c))) r
  have e1 := rowSum (exp (F := Ideal) (k0_pay4 (F := Ideal) (X c) (w1 (F := Ideal) (blkW W) c))) r
  show (Scalar.ofBits (F := Ideal) .f32 0x00000000#32 + multiReduction .add [1] S512 _ _ _ _ _ (ix1 r)) + multiReduction .add [1] S512 _ _ _ _ _ (ix1 r) = _
  rw [zero_word, pay6_eq, e0, e1, zero_add]
  refine congrArg₂ (· + ·) (Finset.sum_congr rfl fun k _ => ?_) (Finset.sum_congr rfl fun k _ => ?_)
  · show Ideal.exp _ = _
    rw [h0]
  · show Ideal.exp _ = _
    rw [h1]

end Cert.Exchange
-- ==== Proof.Picked.lean ====
/-
# The label's logit, and the total

Entry by entry over the extended reals: the kernel compares a column's number in its chunk with the label taken relative to
the chunk's first column, in 32-bit words; that is the comparison of the column's own number with the label. So the second
rows of all devices together hold one logit, the label's, and the kernel's output is the logarithm of the sum of all
exponentials less that logit.
-/
module

public import proofs.«01_k».proof.Proof.Chunk
public import Idealize.ShloMosaic.Lib.Affine
public import Idealize.ShloMosaic.Lib.Pipeline.Value

@[expose] public section

noncomputable section

namespace Cert.Exchange

open Cert.KernelIdeal Cert.KernelIdeal.Gen

open Idealize.ShloMosaic
open Idealize.ShloMosaic.TcCoe
open Idealize.ShloMosaic.ValueIdx

/-- The first column of a device's share, as the kernel's words compute it. -/
theorem word_base : ∀ c : Dev nD, vY c * 8192#32 = BitVec.ofNat 32 (8192 * (c.val / 4 % 2))
    ∧ vCol c * 1024#32 = BitVec.ofNat 32 (4096 * (c.val / 8) + 1024 * (c.val % 4)) := by decide +kernel

/-- A column's place in its chunk is the label's relative place just when the column is the label. -/
theorem word_hit (c : Dev nD) (h : Fin 2) (k : Fin 512) (l : BitVec 32) :
    BitVec.ofNat 32 k.val = l - vY c * 8192#32 - vCol c * 1024#32 - BitVec.ofNat 32 (512 * h.val) ↔ l.toNat = (col c h k).val := by
  obtain ⟨e₁, e₂⟩ := word_base c
  have hc : c.val < 16 := c.isLt
  have hh := h.isLt
  have hk := k.isLt
  have hl := l.isLt
  rw [e₁, e₂, ← BitVec.toNat_inj]
  simp only [BitVec.toNat_sub, BitVec.toNat_ofNat, col]
  omega

/-- The labels relative to the device's first column, at a row. -/
theorem v87_apply (lab : Dev nD → Vec Ideal S512 .i32) (c : Dev nD) (r : Fin 512) (u : Fin 1) :
    v87 (F := Ideal) lab c (ix2 r u) = (lab c (ix1 r) : BitVec 32) - vY c * 8192#32 - vCol c * 1024#32 := by
  refine (shapeCast_a_a1_apply (subi (subi (shapeCast S512 (lab c) shapeCasts_S512_S512 : IVec S512 32)
    (broadcast S512 (Scalar.muli (vY c) 8192#32))) (broadcast S512 (Scalar.muli (vCol c) 1024#32))) shapeCasts_S512_S512x1 r u).trans ?_
  show shapeCast S512 (lab c) shapeCasts_S512_S512 (ix1 r) - _ - _ = _
  rw [shapeCast_self]
  rfl

/-- Masking a chunk's logits by the label and summing keeps the label's logit. -/
theorem mask_apply (lab : Dev nD → Vec Ideal S512 .i32) (c : Dev nD) (h : Fin 2) (o : BitVec 32) (ho : o = BitVec.ofNat 32 (512 * h.val))
    (v : FVec Ideal S512x512 .f32) (r k : Fin 512) :
    select (cmpi .eq vIota (broadcastTo S512x512 (subi (v87 (F := Ideal) lab c) (broadcast S512x1 o)) broadcasts_S512x1_S512x512))
        v (broadcast S512x512 (Scalar.ofBits (F := Ideal) .f32 0x00000000#32)) (ix2 r k)
      = if (lab c (ix1 r) : BitVec 32).toNat = (col c h k).val then v (ix2 r k) else 0 := by
  have hb : broadcastTo S512x512 (subi (v87 (F := Ideal) lab c) (broadcast S512x1 o)) broadcasts_S512x1_S512x512 (ix2 r k)
      = (lab c (ix1 r) : BitVec 32) - vY c * 8192#32 - vCol c * 1024#32 - o := by
    refine (broadcastTo_apply _ _ (ix2 r k) (ix2 r (0 : Fin 1)) fun a => ?_).trans ?_
    · match a with
      | ⟨0, _⟩ => rfl
      | ⟨1, _⟩ => rfl
    · show v87 (F := Ideal) lab c (ix2 r 0) - o = _
      rw [v87_apply]
  have hi : vIota (ix2 r k) = BitVec.ofNat 32 k.val := by
    show BitVec.ofNat 32 (0 * 512 + k.val) = _
    rw [Nat.zero_mul, Nat.zero_add]
  show (if IntOp.cmpi .eq (vIota (ix2 r k)) (broadcastTo S512x512 (subi (v87 (F := Ideal) lab c) (broadcast S512x1 o)) broadcasts_S512x1_S512x512 (ix2 r k)) = 1#1
    then v (ix2 r k) else Scalar.ofBits (F := Ideal) .f32 0x00000000#32) = _
  rw [hb, hi, zero_word, ho]
  exact if_congr (IntOp.cmpi_eq.trans (word_hit c h k _)) rfl rfl

/-- A device's second row: its logits at the label, summed. -/
theorem v131_apply (X : Dev nD → FVec Ideal S512x1024 .f32) (W : FVec Ideal ⟨2, ![1024, 16384]⟩ .f32) (lab : Dev nD → Vec Ideal S512 .i32)
    (c : Dev nD) (r : Fin 512) :
    v131 (F := Ideal) X (blkW W) lab c (ix1 r)
      = ∑ k, (if (lab c (ix1 r) : BitVec 32).toNat = (col c 0 k).val then lg (X c) W r (col c 0 k) else 0)
        + ∑ k, (if (lab c (ix1 r) : BitVec 32).toNat = (col c 1 k).val then lg (X c) W r (col c 1 k) else 0) := by
  have e0 := rowSum (select (cmpi .eq vIota (broadcastTo S512x512 (subi (v87 (F := Ideal) lab c) (broadcast S512x1 0#32)) broadcasts_S512x1_S512x512))
    (k0_pay4 (F := Ideal) (X c) (w0 (F := Ideal) (blkW W) c)) (broadcast S512x512 (Scalar.ofBits (F := Ideal) .f32 0x00000000#32))) r
  have e1 := rowSum (select (cmpi .eq vIota (broadcastTo S512x512 (subi (v87 (F := Ideal) lab c) (broadcast S512x1 512#32)) broadcasts_S512x1_S512x512))
    (k0_pay4 (F := Ideal) (X c) (w1 (F := Ideal) (blkW W) c)) (broadcast S512x512 (Scalar.ofBits (F := Ideal) .f32 0x00000000#32))) r
  have f0 := e0.trans (Finset.sum_congr rfl fun k _ => (mask_apply lab c 0 0#32 rfl _ r k).trans
    (if_congr Iff.rfl ((pay4_apply _ _ r k).trans (Finset.sum_congr rfl fun t _ => congrArg (X c (ix2 r t) * ·) (w0_apply W c t k))) rfl))
  have f1 := e1.trans (Finset.sum_congr rfl fun k _ => (mask_apply lab c 1 512#32 rfl _ r k).trans
    (if_congr Iff.rfl ((pay4_apply _ _ r k).trans (Finset.sum_congr rfl fun t _ => congrArg (X c (ix2 r t) * ·) (w1_apply W c t k))) rfl))
  refine (congrArg₂ (fun a b : EReal => (Scalar.ofBits (F := Ideal) .f32 0x00000000#32 + a) + b) f0 f1).trans ?_
  show (Scalar.ofBits (F := Ideal) .f32 0x00000000#32 + _) + _ = _
  rw [zero_word, zero_add]
  rfl

/-- A row of the gathered pairs summed over the devices. -/
theorem pairSum (v : FVec Ideal S16x2x512 .f32) (q : Fin 2) (r : Fin 512) :
    multiReduction .add [0] S2x512 v 0x00000000#32 reduces_S16x2x512_S2x512 (.inl rfl) rfl (ix2 q r) = ∑ j : Fin 16, v (ix3 j q r) := by
  refine (Ideal.multiReduction_add_single v _ _ _ _ _).trans (Finset.sum_congr rfl fun k _ => congrArg v (funext fun a => ?_))
  match a with
  | ⟨0, _⟩ => rfl
  | ⟨1, _⟩ => rfl
  | ⟨2, _⟩ => rfl

/-- The last step: the logarithm of the first rows' sum, less the second rows' sum. -/
theorem pay44_apply (v : FVec Ideal S16x2x512 .f32) (r : Fin 512) :
    k0_pay44 (F := Ideal) v (ix1 r) = Ideal.log (∑ j : Fin 16, v (ix3 j 0 r)) - ∑ j : Fin 16, v (ix3 j 1 r) := by
  have e0 := pairSum v 0 r
  have e1 := pairSum v 1 r
  have s0 : ∀ u : FVec Ideal S2x512 .f32,
      shapeCast S512 (extractStridedSlice S1x512 ![0, 0] u slices_S2x512_o0_0_S1x512) shapeCasts_S1x512_S512 (ix1 r) = u (ix2 (0 : Fin 2) r) := fun u => by
    refine (shapeCast_1a_a_apply _ shapeCasts_S1x512_S512 r).trans (extractStridedSlice_apply _ u _ (ix2 (0 : Fin 1) r) (ix2 (0 : Fin 2) r) fun a => ?_)
    match a with
    | ⟨0, _⟩ => rfl
    | ⟨1, _⟩ => exact (Nat.zero_add r.val).symm
  have s1 : ∀ u : FVec Ideal S2x512 .f32,
      shapeCast S512 (extractStridedSlice S1x512 ![1, 0] u slices_S2x512_o1_0_S1x512) shapeCasts_S1x512_S512 (ix1 r) = u (ix2 (1 : Fin 2) r) := fun u => by
    refine (shapeCast_1a_a_apply _ shapeCasts_S1x512_S512 r).trans (extractStridedSlice_apply _ u _ (ix2 (0 : Fin 1) r) (ix2 (1 : Fin 2) r) fun a => ?_)
    match a with
    | ⟨0, _⟩ => rfl
    | ⟨1, _⟩ => exact (Nat.zero_add r.val).symm
  exact congrArg₂ (fun a b : EReal => Ideal.log a - b) ((s0 _).trans e0) ((s1 _).trans e1)

/-- **The kernel's output**, entry by entry: with the same rows and labels on every device and the weights cut among them, the
logarithm of the sum of all columns' exponentials, less the label's logit. -/
theorem out_apply (X : Dev nD → FVec Ideal S512x1024 .f32) (W : FVec Ideal ⟨2, ![1024, 16384]⟩ .f32) (lab : Dev nD → Vec Ideal S512 .i32)
    (x : FVec Ideal S512x1024 .f32) (l : Vec Ideal S512 .i32) (hX : ∀ c, X c = x) (hl : ∀ c, lab c = l) (r : Fin 512) (g : Fin 16384)
    (hg : (l (ix1 r) : BitVec 32).toNat = g.val) :
    k0_pay44 (F := Ideal) (gat (st (F := Ideal) X (blkW W) lab)) (ix1 r) = Ideal.log (∑ n, Ideal.exp (lg x W r n)) - lg x W r g := by
  have h0 : ∀ c : Fin 16, gat (st (F := Ideal) X (blkW W) lab) (ix3 c (0 : Fin 2) r)
      = ∑ k, Ideal.exp (lg x W r (col c 0 k)) + ∑ k, Ideal.exp (lg x W r (col c 1 k)) := fun c => by
    refine (v123_apply X W c r).trans ?_
    rw [hX]
  have h1 : ∀ c : Fin 16, gat (st (F := Ideal) X (blkW W) lab) (ix3 c (1 : Fin 2) r)
      = ∑ k, (if g = col c 0 k then lg x W r (col c 0 k) else 0) + ∑ k, (if g = col c 1 k then lg x W r (col c 1 k) else 0) := fun c => by
    refine (v131_apply X W lab c r).trans ?_
    rw [hX, hl, hg]
    simp only [← Fin.ext_iff]
  rw [pay44_apply, Finset.sum_congr rfl fun c _ => h0 c, Finset.sum_congr rfl fun c _ => h1 c,
    sum_cols fun n => Ideal.exp (lg x W r n), sum_cols fun n => if g = n then lg x W r n else 0, Finset.sum_ite_eq Finset.univ g]
  rw [if_pos (Finset.mem_univ g)]

end Cert.Exchange
-- ==== Proof.Reference.lean ====
/-
# What the reference computes

Entry by entry over the extended reals: the reference's logits, their largest, the sum of the exponentials of the logits
less the largest, and the logit its table of indices picks for each row. With finite logits and a label in the vocabulary
the result is the logarithm of the sum of all columns' exponentials, less the label's logit.
-/
module

public import proofs.«01_k».proof.Proof.Chunk
public import proofs.«01_k».proof.Proof.Gen.ReferenceIdeal.Run
public import Idealize.ShloMosaic.Lib.KernelVsHost
public import Idealize.ShloMosaic.Lib.Affine
public import Idealize.ShloMosaic.Lib.Pipeline.Value

@[expose] public section

noncomputable section

namespace Cert.Exchange.Ref

open Cert.ReferenceIdeal Cert.ReferenceIdeal.Gen

open Idealize.ShloMosaic
open Idealize.ShloMosaic.TcCoe
open Idealize.ShloMosaic.ValueIdx

variable (x : FVec Ideal S512x1024 .f32) (W : FVec Ideal S1024x16384 .f32) (l : IVec S512 32)

/-- The logits. -/
def logits : FVec Ideal S512x16384 .f32 := Host.dotGeneral dot_S512x1024_S1024x16384_S512x16384_1_0_0_1_n_n none x W
/-- Each row's largest logit. -/
def top : FVec Ideal S512 .f32 :=
  Host.reduce FloatOps.maximumf (logits x W) (constant S_ .f32 0xFF800000#32) reducesTo_S512x16384_S512_d1 h_S_
/-- The logits less their row's largest. -/
def shifted : FVec Ideal S512x16384 .f32 :=
  subf (logits x W) (broadcastInDim S512x16384 ![0, 1] bcast_S512x1_S512x16384_0_1 (broadcastInDim S512x1 ![0] bcast_S512_S512x1_0 (top x W)))
/-- Each row's sum of exponentials. -/
def mass : FVec Ideal S512 .f32 := Host.reduceAdd (Host.exp (shifted x W)) (constant S_ .f32 0x00000000#32) reducesTo_S512x16384_S512_d1 h_S_
/-- Each row's number. -/
def rows : IVec S512 32 :=
  select (cmpi .slt (iotaInDim S512 32 0) (broadcastInDim S512 ![] bcast_S_S512 (constantI S_ 32 0#32)))
    (addi (iotaInDim S512 32 0) (broadcastInDim S512 ![] bcast_S_S512 (constantI S_ 32 512#32))) (iotaInDim S512 32 0)
/-- Each row's label, counted from the end when negative. -/
def cols : IVec S512 32 :=
  select (cmpi .slt l (broadcastInDim S512 ![] bcast_S_S512 (constantI S_ 32 0#32)))
    (addi l (broadcastInDim S512 ![] bcast_S_S512 (constantI S_ 32 16384#32))) l
/-- The table of indices. -/
def table : IVec S512x2 32 :=
  concatenate S512x2 1 [⟨S512x1, broadcastInDim S512x1 ![0] bcast_S512_S512x1_0 rows⟩, ⟨S512x1, broadcastInDim S512x1 ![0] bcast_S512_S512x1_0 (cols l)⟩]
    concatenates_S512x1_S512x1_S512x2_d1
/-- The result. -/
def out : FVec Ideal S512 .f32 :=
  subf (shapeCast S512 (addf (broadcastInDim S512x1 ![0] bcast_S512_S512x1_0 (top x W))
      (Host.log (broadcastInDim S512x1 ![0] bcast_S512_S512x1_0 (mass x W)))) shapeCasts_S512x1_S512)
    (Host.gather gather_S512x16384_S512x2_S512_n_01_n_n_01_1_11 (logits x W) (table l))

/-- A logit. -/
theorem logits_apply (r : Fin 512) (g : Fin 16384) : logits x W (ix2 r g) = lg x W r g := by
  have hd : dot_S512x1024_S1024x16384_S512x16384_1_0_0_1_n_n = DotDims.plain 512 1024 16384 := rfl
  have h := Ideal.matmul_plain_apply (φ₁ := .f32) (φ₂ := .f32) none x W (fun _ => (0 : EReal)) r g
  refine Eq.trans ?_ (h.trans (zero_add _))
  unfold logits
  rw [hd]
  rfl

/-- The word the maximum starts from is −∞. -/
theorem lowest_word : Ideal.ofBits .f32 0xFF800000#32 = (⊥ : EReal) := by
  simp [Ideal.ofBits, Ideal.ieee]

/-- A row's largest logit. -/
theorem top_apply (r : Fin 512) : top x W (ix1 r) = (Finset.univ : Finset (Fin 16384)).fold max ⊥ (lg x W r) := by
  have hR : S512x16384.Reduces [1] S512 := by decide
  unfold top
  rw [hostReduce_maximumf_eq_multiReduction (logits x W) 0xFF800000#32 reducesTo_S512x16384_S512_d1 h_S_ hR (.inl rfl) rfl]
  refine (Ideal.multiReduction_maximumf_single (logits x W) _ hR (.inl rfl) rfl (ix1 r)).trans ?_
  have e : logits x W ∘ hR.lift (ix1 r) = lg x W r := funext fun k => by
    refine Eq.trans (congrArg (logits x W) (funext fun a => ?_)) (logits_apply x W r k)
    match a with
    | ⟨0, _⟩ => rfl
    | ⟨1, _⟩ => rfl
  exact congrArg₂ (fun (b : EReal) (f : Fin 16384 → EReal) => (Finset.univ : Finset (Fin 16384)).fold max b f) lowest_word e

/-- A column of one number per row, at a row. -/
theorem column_apply {α : Type} (v : S512.Idx → α) (r : Fin 512) (u : Fin 1) :
    broadcastInDim S512x1 ![0] bcast_S512_S512x1_0 v (ix2 r u) = v (ix1 r) :=
  broadcastInDim_apply _ _ v (ix2 r u) (ix1 r) fun a => by
    match a with
    | ⟨0, _⟩ => rfl

/-- A logit less its row's largest. -/
theorem shifted_apply (r : Fin 512) (g : Fin 16384) :
    shifted x W (ix2 r g) = lg x W r g - (Finset.univ : Finset (Fin 16384)).fold max ⊥ (lg x W r) := by
  have hb : broadcastInDim S512x16384 ![0, 1] bcast_S512x1_S512x16384_0_1 (broadcastInDim S512x1 ![0] bcast_S512_S512x1_0 (top x W)) (ix2 r g)
      = top x W (ix1 r) := by
    refine (broadcastInDim_apply _ _ _ (ix2 r g) (ix2 r (0 : Fin 1)) fun a => ?_).trans (column_apply _ r 0)
    match a with
    | ⟨0, _⟩ => rfl
    | ⟨1, _⟩ => rfl
  exact congrArg₂ (fun a b : EReal => a - b) (logits_apply x W r g) (hb.trans (top_apply x W r))

/-- A row's sum of exponentials. -/
theorem mass_apply (r : Fin 512) :
    mass x W (ix1 r) = ∑ g, Ideal.exp (lg x W r g - (Finset.univ : Finset (Fin 16384)).fold max ⊥ (lg x W r)) := by
  have hR : S512x16384.Reduces [1] S512 := by decide
  unfold mass
  rw [hostReduceAdd_apply, Ideal.hostReduceAdd_single _ hR]
  show Ideal.ofBits .f32 0x00000000#32 + _ = _
  rw [Ideal.ofBits_zero_f32, zero_add]
  have e : ∀ k : Fin 16384, hR.lift (ix1 r) k = ix2 r k := fun k => funext fun a => by
    match a with
    | ⟨0, _⟩ => rfl
    | ⟨1, _⟩ => rfl
  exact Finset.sum_congr rfl fun k _ => (congrArg (fun i => Ideal.exp (shifted x W i)) (e k)).trans (congrArg Ideal.exp (shifted_apply x W r k))

/-- A word whose number is below 2³¹ is not negative. -/
theorem not_negative (w : BitVec 32) (h : w.toNat < 2147483648) : ¬ IntOp.cmpi .slt w 0#32 = 1#1 := by
  rw [IntOp.cmpi_slt]
  have e : w.toInt = w.toNat := by rw [BitVec.toInt_eq_toNat_cond]; omega
  have z : (0#32 : BitVec 32).toInt = 0 := rfl
  omega

/-- A word whose number is below 2³¹ is that number when read signed. -/
theorem signed_eq (w : BitVec 32) (h : w.toNat < 2147483648) : w.toInt.toNat = w.toNat := by
  have e : w.toInt = w.toNat := by rw [BitVec.toInt_eq_toNat_cond]; omega
  omega

theorem rows_apply (r : Fin 512) : rows (ix1 r) = BitVec.ofNat 32 r.val := by
  have hr := r.isLt
  show (if IntOp.cmpi .slt (BitVec.ofNat 32 r.val) 0#32 = 1#1 then _ else BitVec.ofNat 32 r.val) = _
  rw [if_neg (not_negative _ (by rw [BitVec.toNat_ofNat]; omega))]

theorem cols_apply (r : Fin 512) (h : (l (ix1 r)).toNat < 16384) : cols l (ix1 r) = l (ix1 r) := by
  show (if IntOp.cmpi .slt (l (ix1 r)) 0#32 = 1#1 then _ else l (ix1 r)) = _
  rw [if_neg (not_negative _ (by omega))]

theorem table_row (r : Fin 512) : table l (ix2 r (0 : Fin 2)) = BitVec.ofNat 32 r.val := by
  refine (concatenate_pair_apply_left (t := S512x2) (s₁ := S512x1) (s₂ := S512x1) (1 : Fin 2) _ _ _ (ix2 r (0 : Fin 2)) rfl (ix2 r (0 : Fin 1)) fun b => ?_).trans
    ((column_apply rows r 0).trans (rows_apply r))
  match b with
  | ⟨0, _⟩ => rfl
  | ⟨1, _⟩ => rfl

theorem table_col (r : Fin 512) (h : (l (ix1 r)).toNat < 16384) : table l (ix2 r (1 : Fin 2)) = l (ix1 r) := by
  refine (concatenate_pair_apply_right (t := S512x2) (s₁ := S512x1) (s₂ := S512x1) (1 : Fin 2) _ _ _ (ix2 r (1 : Fin 2)) rfl rfl (ix2 r (0 : Fin 1))
    (fun b hb => ?_) rfl).trans ((column_apply (cols l) r 0).trans (cols_apply l r h))
  match b with
  | ⟨0, _⟩ => rfl
  | ⟨1, _⟩ => exact absurd rfl hb

/-- A gather at both axes of a matrix reads the entry its two start indices name. -/
theorem pick_apply (v : FVec Ideal S512x16384 .f32) (t : IVec S512x2 32) (r : Fin 512) (g : Fin 16384)
    (h0 : (t (ix2 r (0 : Fin 2))).toInt.toNat = r.val) (h1 : (t (ix2 r (1 : Fin 2))).toInt.toNat = g.val) :
    Host.gather gather_S512x16384_S512x2_S512_n_01_n_n_01_1_11 v t (ix1 r) = v (ix2 r g) := by
  unfold Host.gather
  refine congrArg v (funext fun a => Fin.ext ?_)
  show gather_S512x16384_S512x2_S512_n_01_n_n_01_1_11.start (ix1 r) t a + gather_S512x16384_S512x2_S512_n_01_n_n_01_1_11.batchCoord (ix1 r) a
      + gather_S512x16384_S512x2_S512_n_01_n_n_01_1_11.offCoord (ix1 r) a = (ix2 r g a).val
  have hk : a ∈ gather_S512x16384_S512x2_S512_n_01_n_n_01_1_11.collapsedSliceDims := by
    revert a
    decide
  rw [GatherDims.batchCoord_eq_zero _ _ _ List.not_mem_nil, GatherDims.offCoord_eq_zero _ _ _ (fun h => ((GatherDims.mem_sKept _ _).mp h).1 hk)]
  simp only [Nat.add_zero]
  unfold GatherDims.start
  have hr := r.isLt
  have hg := g.isLt
  have h01 : a = 0 ∨ a = 1 := by
    match a with
    | ⟨0, _⟩ => exact .inl rfl
    | ⟨1, _⟩ => exact .inr rfl
  rcases h01 with rfl | rfl
  · have hm : (0 : Fin 2) ∈ gather_S512x16384_S512x2_S512_n_01_n_n_01_1_11.startIndexMap := by decide
    refine (dif_pos hm).trans ?_
    have hsi : gather_S512x16384_S512x2_S512_n_01_n_n_01_1_11.siIdx (ix1 r)
        ⟨List.idxOf (0 : Fin 2) gather_S512x16384_S512x2_S512_n_01_n_n_01_1_11.startIndexMap, List.idxOf_lt_length_iff.2 hm⟩ = ix2 r (0 : Fin 2) := by
      funext b
      refine Fin.ext ?_
      match b with
      | ⟨0, _⟩ => rfl
      | ⟨1, _⟩ => rfl
    rw [hsi]
    show min (t (ix2 r (0 : Fin 2))).toInt.toNat (512 - 1) = r.val
    omega
  · have hm : (1 : Fin 2) ∈ gather_S512x16384_S512x2_S512_n_01_n_n_01_1_11.startIndexMap := by decide
    refine (dif_pos hm).trans ?_
    have hsi : gather_S512x16384_S512x2_S512_n_01_n_n_01_1_11.siIdx (ix1 r)
        ⟨List.idxOf (1 : Fin 2) gather_S512x16384_S512x2_S512_n_01_n_n_01_1_11.startIndexMap, List.idxOf_lt_length_iff.2 hm⟩ = ix2 r (1 : Fin 2) := by
      funext b
      refine Fin.ext ?_
      match b with
      | ⟨0, _⟩ => rfl
      | ⟨1, _⟩ => rfl
    rw [hsi]
    show min (t (ix2 r (1 : Fin 2))).toInt.toNat (16384 - 1) = g.val
    omega

/-- The logarithm of a sum as the reference puts it together, at a row. -/
theorem lse_apply (t m : FVec Ideal S512 .f32) (r : Fin 512) :
    shapeCast S512 (addf (broadcastInDim S512x1 ![0] bcast_S512_S512x1_0 t) (Host.log (broadcastInDim S512x1 ![0] bcast_S512_S512x1_0 m)))
        shapeCasts_S512x1_S512 (ix1 r)
      = t (ix1 r) + Ideal.log (m (ix1 r)) := by
  refine (shapeCast_apply _ shapeCasts_S512x1_S512 (ix1 r) (ix2 r (0 : Fin 1)) ?_).trans ?_
  · rw [Shape.rowMajor_val_two, Shape.rowMajor_val_one]
    show r.val * 1 + 0 = r.val
    omega
  · show broadcastInDim S512x1 ![0] bcast_S512_S512x1_0 t (ix2 r 0) + Ideal.log (broadcastInDim S512x1 ![0] bcast_S512_S512x1_0 m (ix2 r 0)) = _
    rw [column_apply, column_apply]

/-- The table's row index, read signed. -/
theorem table_row_nat (r : Fin 512) : (table l (ix2 r (0 : Fin 2))).toInt.toNat = r.val := by
  have hr := r.isLt
  have h0 : (BitVec.ofNat 32 r.val).toNat = r.val := by rw [BitVec.toNat_ofNat]; omega
  exact (congrArg (fun w : BitVec 32 => w.toInt.toNat) (table_row l r)).trans ((signed_eq _ (by omega)).trans h0)

/-- The table's column index, read signed. -/
theorem table_col_nat (r : Fin 512) (h : (l (ix1 r)).toNat < 16384) : (table l (ix2 r (1 : Fin 2))).toInt.toNat = (l (ix1 r)).toNat :=
  (congrArg (fun w : BitVec 32 => w.toInt.toNat) (table_col l r h)).trans (signed_eq _ (by omega))

/-- The logit picked for a row is its label's. -/
theorem picked_apply (r : Fin 512) (g : Fin 16384) (hg : (l (ix1 r)).toNat = g.val) :
    Host.gather gather_S512x16384_S512x2_S512_n_01_n_n_01_1_11 (logits x W) (table l) (ix1 r) = lg x W r g :=
  have hlt : (l (ix1 r)).toNat < 16384 := hg ▸ g.isLt
  (pick_apply (logits x W) (table l) r g (table_row_nat l r) ((table_col_nat l r hlt).trans hg)).trans (logits_apply x W r g)

/-- The stabilised logarithm of a row's sum is the plain one. -/
theorem stable_apply (r : Fin 512) (hf : ∀ n, ∃ p : ℝ, lg x W r n = p) :
    (top x W (ix1 r) : EReal) + Ideal.log (mass x W (ix1 r)) = Ideal.log (∑ n, Ideal.exp (lg x W r n)) :=
  (congrArg₂ (fun a b : EReal => a + Ideal.log b) (top_apply x W r) (mass_apply x W r)).trans (stable_logSum (lg x W r) hf)

/-- A difference of two vectors, at a row. -/
theorem difference_apply (a b : FVec Ideal S512 .f32) (r : Fin 512) (p q : EReal) (ha : a (ix1 r) = p) (hb : b (ix1 r) = q) :
    subf a b (ix1 r) = p - q := by
  show (a (ix1 r) : EReal) - b (ix1 r) = p - q
  rw [ha, hb]

/-- **The reference's result**, entry by entry: with finite logits and the row's label at column `g`, the logarithm of the
sum of all columns' exponentials, less the label's logit. -/
theorem out_apply (r : Fin 512) (g : Fin 16384) (hg : (l (ix1 r)).toNat = g.val) (hf : ∀ n, ∃ p : ℝ, lg x W r n = p) :
    out x W l (ix1 r) = Ideal.log (∑ n, Ideal.exp (lg x W r n)) - lg x W r g := by
  unfold out
  exact difference_apply _ _ r _ _ ((lse_apply (top x W) (mass x W) r).trans (stable_apply x W r hf)) (picked_apply x W l r g hg)

end Cert.Exchange.Ref
-- ==== Proof.Values.lean ====
/-
# The value claim

What the precondition says of the arguments, and the equality: from finite activations and weights and labels in the
vocabulary, every device's result array ends holding what the reference's result array ends holding.
-/
module

public import proofs.«01_k».proof.Defs
public import proofs.«01_k».proof.Proof.Frames
public import proofs.«01_k».proof.Proof.Picked
public import proofs.«01_k».proof.Proof.Reference

@[expose] public section

noncomputable section

namespace Cert.Exchange

open Idealize.ShloMosaic Idealize.SL.Sem
open Idealize.ShloMosaic.TcCoe
open Idealize.ShloMosaic.ValueIdx

/-! ## What the precondition says -/

/-- The word of the bound is +∞. -/
theorem highest_word : Ideal.ofBits .f32 0x7F800000#32 = (⊤ : EReal) := by
  simp [Ideal.ofBits, Ideal.ieee]

/-- A number whose magnitude is below +∞ is finite. -/
theorem finite_of_abs (a : EReal) (h : Ideal.cmp .olt (max a (-a)) (Ideal.ofBits .f32 0x7F800000#32) = 1#1) : ∃ p : ℝ, a = p := by
  rw [highest_word] at h
  have hlt : max a (-a) < ⊤ := by
    by_contra hn
    have : Ideal.cmp .olt (max a (-a)) ⊤ = 0#1 := by
      show BitVec.ofBool (decide (max a (-a) < ⊤)) = 0#1
      rw [decide_eq_false hn]
      rfl
    rw [this] at h
    exact absurd h (by decide)
  induction a with
  | bot => exact absurd hlt (by simp)
  | top => exact absurd hlt (by simp)
  | coe p => exact ⟨p, rfl⟩

/-- A label between 0 and the vocabulary's size is a column's number. -/
theorem label_lt (w : BitVec 32) (h0 : IntOp.cmpi .sge w 0#32 = 1#1) (h1 : IntOp.cmpi .slt w 16384#32 = 1#1) : w.toNat < 16384 := by
  rw [IntOp.cmpi_sge] at h0
  rw [IntOp.cmpi_slt] at h1
  have z : (0#32 : BitVec 32).toInt = 0 := rfl
  have v : (16384#32 : BitVec 32).toInt = 16384 := rfl
  have e := BitVec.toInt_eq_toNat_cond w
  have hw := w.isLt
  rw [z] at h0
  rw [v] at h1
  split at e <;> omega

open Cert.KernelIdeal Cert.KernelIdeal.Gen

/-- The result array has one block, the whole of it. -/
theorem out_block (c : Dev nD) (f : Vec Ideal S512 .f32) : (win0_1.blk (t0_0 : Fin cfg0.N)).view.read (Elt Ideal) f = f := by
  funext i
  refine congrArg f (funext fun a => Fin.ext ?_)
  match a with
  | ⟨0, _⟩ =>
    show 0 * 512 + 1 * (i 0).val = (i 0).val
    omega

/-- The labels are staged whole. -/
theorem lab_block (c : Dev nD) (f : Vec Ideal S512 .i32) : (win0_0.blk (t0_0 : Fin cfg0.N)).view.read (Elt Ideal) f = f := by
  funext i
  refine congrArg f (funext fun a => Fin.ext ?_)
  match a with
  | ⟨0, _⟩ =>
    show 0 * 512 + 1 * (i 0).val = (i 0).val
    omega

/-! ## The equality -/

section Claim

variable [Cert.Pre_finite_and_labelled_KernelIdeal.Facts]
variable (m : (ℓ : Loc nD τ sig) → Buf (Elt Ideal) ℓ) (hp : Pre_KernelIdeal_finite_and_labelled_KernelIdeal m)
variable (x : FVec Ideal ⟨2, ![512, 1024]⟩ .f32) (W : FVec Ideal ⟨2, ![1024, 16384]⟩ .f32) (l : IVec ⟨1, ![512]⟩ 32)
variable (hx : ∀ c : Dev nD, m ((c : Thread nD τ).loc main_arg0) = x) (hW : ∀ c : Dev nD, m ((c : Thread nD τ).loc main_arg1) = blkW W c)
variable (hl : ∀ c : Dev nD, m ((c : Thread nD τ).loc main_arg2) = l)

include hp hx in
/-- The activations are finite. -/
theorem x_finite (i) : ∃ p : ℝ, x i = p := by
  have h := congrFun (hp 0).1 i
  rw [hx 0] at h
  exact finite_of_abs (x i) h

include hp hW in
/-- The weights are finite: every column is in some device's block. -/
theorem W_finite (t : Fin 1024) (g : Fin 16384) : ∃ p : ℝ, W (ix2 t g) = p := by
  have hg := g.isLt
  have hb := blkW_apply W (⟨4 * (g.val / 8192), by show _ < 16; omega⟩ : Dev nD) t ⟨g.val % 8192, by omega⟩ g (by
    show g.val = 8192 * (4 * (g.val / 8192) / 4 % 2) + g.val % 8192
    omega)
  have h := congrFun (hp ⟨4 * (g.val / 8192), by show _ < 16; omega⟩).2.1 (ix2 t (⟨g.val % 8192, by omega⟩ : Fin 8192))
  rw [hW] at h
  rw [← hb]
  exact finite_of_abs _ h

include hp hl in
/-- The labels are columns' numbers. -/
theorem l_lt (r : Fin 512) : (l (ix1 r)).toNat < 16384 := by
  have h0 := congrFun (hp 0).2.2.1 (ix1 r)
  have h1 := congrFun (hp 0).2.2.2 (ix1 r)
  rw [hl 0] at h0 h1
  exact label_lt _ h0 h1

include hp hx hW hl in
/-- The kernel's result is the reference's. -/
theorem same_value : mOut m = Ref.out x W l := by
  funext i
  obtain ⟨r, rfl⟩ : ∃ r : Fin 512, i = ix1 r := ⟨i 0, funext fun a => by
    match a with
    | ⟨0, _⟩ => rfl⟩
  have eW : mW m = blkW W := funext hW
  have eL : ∀ c, mLab m c = l := fun c => (lab_block c _).trans (hl c)
  have hlt := l_lt m hp l hl r
  have hf : ∀ n, ∃ p : ℝ, lg x W r n = p := fun n =>
    sum_mul_real (fun t => x_finite m hp x hx (ix2 r t)) (fun t => W_finite m hp W hW t n)
  refine Eq.trans ?_ (Ref.out_apply x W l r ⟨(l (ix1 r)).toNat, hlt⟩ rfl hf).symm
  show k0_pay44 (F := Ideal) (gat (st (F := Ideal) (mX m) (mW m) (mLab m))) (ix1 r) = _
  rw [eW]
  exact out_apply (mX m) W (mLab m) x l hx eL r ⟨(l (ix1 r)).toNat, hlt⟩ rfl

end Claim

set_option maxHeartbeats 1000000 in
/-- **The value claim.** -/
theorem values [hP : Cert.Pre_finite_and_labelled_KernelIdeal.Facts] :
    algebraic_KernelIdeal_ReferenceIdeal_pre_finite_and_labelled_KernelIdeal (hKernelIdeal := Cert.KernelIdeal.Gen.facts)
      (hReferenceIdeal := Cert.ReferenceIdeal.Gen.facts) (hPre_finite_and_labelled_KernelIdeal := hP) := by
  intro m g m' g' hp harg
  refine ⟨mOut m, θ_run_mono (run_main m g) fun r h c => ⟨?_, (h.1 c).2.2.1, (h.1 c).2.2.2, ((h.1 c).1 (0 : Fin 2)).trans (finalA_lab m g c)⟩,
    θ_run_mono (Cert.ReferenceIdeal.Value.run m' g') fun r h => ⟨(h 0).1.trans ?_, (h 0).2⟩⟩
  · exact ((h.1 c).1 (1 : Fin 2)).trans ((out_block c _).symm.trans (finalA_out m g c))
  · exact (same_value m hp _ _ _ (fun c => (harg c).1) (fun c => (harg c).2.1) (fun c => (harg c).2.2)).symm

end Cert.Exchange

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  ⟨by decide, by decide, by decide⟩, ⟨by decide, by decide, by decide⟩,
  fun m ρ _ => Cert.Exchange.word_frame m ρ,
  fun m ρ _ => Cert.Exchange.kernel_frame m ρ,
  fun m ρ _ => Cert.Exchange.kernel_frame m ρ,
  fun m ρ _ => Cert.Exchange.reference_frame m ρ,
  fun m ρ _ => Cert.Exchange.reference_frame m ρ,
  trivial,
  Cert.Exchange.values (hP := ⟨by decide, by decide, by decide⟩)⟩

end Cert.Proof

end
